-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_impact_nonneg [hPre_impact_nonneg : Cert.Pre_impact_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_impact_nonneg [hPre_impact_nonneg : Cert.Pre_impact_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_impact_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_impact_nonneg [hKernelIdeal : Cert.KernelIdeal.Facts] [hPre_impact_nonneg : Cert.Pre_impact_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_impact_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_impact_nonneg [hReferenceIdeal : Cert.ReferenceIdeal.Facts] [hPre_impact_nonneg : Cert.Pre_impact_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_impact_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_impact_nonneg [hKernelIdeal : Cert.KernelIdeal.Facts] [hReferenceIdeal : Cert.ReferenceIdeal.Facts] [hPre_impact_nonneg : Cert.Pre_impact_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_impact_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v7_0)) (v5 : (c : Dev Cert.KernelIdeal.nD) → Buf (Elt Ideal) ((c.tc : Thread Cert.KernelIdeal.nD Cert.KernelIdeal.τ).loc Cert.KernelIdeal.main_v15)) (v6 : (c : Dev Cert.KernelIdeal.nD) → Buf (Elt Ideal) ((c.tc : Thread Cert.KernelIdeal.nD Cert.KernelIdeal.τ).loc Cert.KernelIdeal.main_v11_4)) (v7 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v7_0) = v4 c
          ∧ r.2.mem ((c.tc : Thread Cert.KernelIdeal.nD Cert.KernelIdeal.τ).loc Cert.KernelIdeal.main_v15) = v5 c
          ∧ r.2.mem ((c.tc : Thread Cert.KernelIdeal.nD Cert.KernelIdeal.τ).loc Cert.KernelIdeal.main_v11_4) = v6 c
          ∧ r.2.mem ((c.tc : Thread Cert.KernelIdeal.nD Cert.KernelIdeal.τ).loc Cert.KernelIdeal.main_v16) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_v13) = v5 c
          ∧ r.2.mem ((c.tc : Thread Cert.ReferenceIdeal.nD Cert.ReferenceIdeal.τ).loc Cert.ReferenceIdeal.main_v9_6) = v6 c
          ∧ r.2.mem ((c.tc : Thread Cert.ReferenceIdeal.nD Cert.ReferenceIdeal.τ).loc Cert.ReferenceIdeal.main_v14) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def algebraic_KernelIdeal_ReferenceIdeal_on_sat_if_impact_nonneg [hKernelIdeal : Cert.KernelIdeal.Facts] [hReferenceIdeal : Cert.ReferenceIdeal.Facts] [hOn_sat_if_impact_nonneg : Cert.On_sat_if_impact_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v7_0)) (v5 : (c : Dev Cert.KernelIdeal.nD) → Buf (Elt Ideal) ((c.tc : Thread Cert.KernelIdeal.nD Cert.KernelIdeal.τ).loc Cert.KernelIdeal.main_v15)) (v6 : (c : Dev Cert.KernelIdeal.nD) → Buf (Elt Ideal) ((c.tc : Thread Cert.KernelIdeal.nD Cert.KernelIdeal.τ).loc Cert.KernelIdeal.main_v11_4)) (v7 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 30522]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v11_0) i = v0 c i)
          ∧ (∀ i : (⟨1, ![128]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.KernelIdeal.nD Cert.KernelIdeal.τ).loc Cert.KernelIdeal.main_v12) i = v1 c i)
          ∧ (∀ i : (⟨1, ![30522]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.KernelIdeal.nD Cert.KernelIdeal.τ).loc Cert.KernelIdeal.main_v13) i = v2 c i)
          ∧ (∀ i : (⟨0, ![]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.KernelIdeal.nD Cert.KernelIdeal.τ).loc Cert.KernelIdeal.main_v14) i = v3 c i)
          ∧ (∀ i : (⟨3, ![128, 256, 768]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.KernelIdeal.nD Cert.KernelIdeal.τ).loc Cert.KernelIdeal.main_v7_0) i = v4 c i)
          ∧ (∀ i : (⟨2, ![128, 256]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 i = 1#1 → r.2.mem ((c.tc : Thread Cert.KernelIdeal.nD Cert.KernelIdeal.τ).loc Cert.KernelIdeal.main_v15) i = v5 c i)
          ∧ (∀ i : (⟨2, ![128, 30522]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 i = 1#1 → r.2.mem ((c.tc : Thread Cert.KernelIdeal.nD Cert.KernelIdeal.τ).loc Cert.KernelIdeal.main_v11_4) i = v6 c i)
          ∧ (∀ i : (⟨1, ![128]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 i = 1#1 → r.2.mem ((c.tc : Thread Cert.KernelIdeal.nD Cert.KernelIdeal.τ).loc Cert.KernelIdeal.main_v16) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![128, 30522]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v9_0) i = v0 c i)
          ∧ (∀ i : (⟨1, ![128]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.ReferenceIdeal.nD Cert.ReferenceIdeal.τ).loc Cert.ReferenceIdeal.main_v10) i = v1 c i)
          ∧ (∀ i : (⟨1, ![30522]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.ReferenceIdeal.nD Cert.ReferenceIdeal.τ).loc Cert.ReferenceIdeal.main_v11) i = v2 c i)
          ∧ (∀ i : (⟨0, ![]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.ReferenceIdeal.nD Cert.ReferenceIdeal.τ).loc Cert.ReferenceIdeal.main_v12) i = v3 c i)
          ∧ (∀ i : (⟨3, ![128, 256, 768]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.ReferenceIdeal.nD Cert.ReferenceIdeal.τ).loc Cert.ReferenceIdeal.main_v9_4) i = v4 c i)
          ∧ (∀ i : (⟨2, ![128, 256]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 i = 1#1 → r.2.mem ((c.tc : Thread Cert.ReferenceIdeal.nD Cert.ReferenceIdeal.τ).loc Cert.ReferenceIdeal.main_v13) i = v5 c i)
          ∧ (∀ i : (⟨2, ![128, 30522]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 i = 1#1 → r.2.mem ((c.tc : Thread Cert.ReferenceIdeal.nD Cert.ReferenceIdeal.τ).loc Cert.ReferenceIdeal.main_v9_6) i = v6 c i)
          ∧ (∀ i : (⟨1, ![128]⟩ : Shape).Idx, (Cert.On_sat_if_impact_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 i = 1#1 → r.2.mem ((c.tc : Thread Cert.ReferenceIdeal.nD Cert.ReferenceIdeal.τ).loc Cert.ReferenceIdeal.main_v14) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_impact_nonneg : Cert.Pre_impact_nonneg.Facts) (hOn_sat_if_impact_nonneg : Cert.On_sat_if_impact_nonneg.Facts),
    quiescent_Kernel (hKernel := hKernel)
    ∧ quiescent_KernelIdeal (hKernelIdeal := hKernelIdeal)
    ∧ quiescent_KernelIdeal_pre_impact_nonneg (hKernelIdeal := hKernelIdeal) (hPre_impact_nonneg := hPre_impact_nonneg)
    ∧ quiescent_ReferenceIdeal (hReferenceIdeal := hReferenceIdeal)
    ∧ quiescent_ReferenceIdeal_pre_impact_nonneg (hReferenceIdeal := hReferenceIdeal) (hPre_impact_nonneg := hPre_impact_nonneg)
    ∧ preserves_Kernel_KernelIdeal
    ∧ algebraic_KernelIdeal_ReferenceIdeal_pre_impact_nonneg (hKernelIdeal := hKernelIdeal) (hReferenceIdeal := hReferenceIdeal) (hPre_impact_nonneg := hPre_impact_nonneg)
    ∧ algebraic_KernelIdeal_ReferenceIdeal_on_sat_if_impact_nonneg (hKernelIdeal := hKernelIdeal) (hReferenceIdeal := hReferenceIdeal) (hOn_sat_if_impact_nonneg := hOn_sat_if_impact_nonneg)
-- ==== On_sat_if_impact_nonneg.lean ====
abbrev S128x256x768 : Shape := ⟨3, ![128, 256, 768]⟩
abbrev S128x256 : Shape := ⟨2, ![128, 256]⟩
abbrev S128 : Shape := ⟨1, ![128]⟩
abbrev S768x768 : Shape := ⟨2, ![768, 768]⟩
abbrev S768 : Shape := ⟨1, ![768]⟩
abbrev S30522x768 : Shape := ⟨2, ![30522, 768]⟩
abbrev S30522 : Shape := ⟨1, ![30522]⟩
abbrev S_ : Shape := ⟨0, ![]⟩
abbrev S128x30522 : Shape := ⟨2, ![128, 30522]⟩

class Facts : Prop where
  bcast_S_S128x30522 : S_.BroadcastsInDim S128x30522 (![] : Fin 0 → Fin S128x30522.rank)
  bcast_S_S128 : S_.BroadcastsInDim S128 (![] : Fin 0 → Fin S128.rank)
  bcast_S_S30522 : S_.BroadcastsInDim S30522 (![] : Fin 0 → Fin S30522.rank)
  bcast_S_S128x256x768 : S_.BroadcastsInDim S128x256x768 (![] : Fin 0 → Fin S128x256x768.rank)
  bcast_S_S128x256 : S_.BroadcastsInDim S128x256 (![] : Fin 0 → Fin S128x256.rank)

variable [Facts]

def fn {F : FTy → Type} [FloatOps F] (main_arg0 : FVec F S128x256x768 .fp8e4m3) (main_arg1 : FVec F S128x256 .f32) (main_arg2 : IVec S128 32) (main_arg3 : FVec F S768x768 .fp8e4m3) (main_arg4 : FVec F S768 .f32) (main_arg5 : FVec F S768 .f32) (main_arg6 : FVec F S768 .f32) (main_arg7 : FVec F S768 .f32) (main_arg8 : FVec F S30522x768 .fp8e4m3) (main_arg9 : FVec F S30522 .f32) (main_arg10 : FVec F S30522 .f32) (main_arg11 : FVec F S_ .f32) : IVec S128x30522 1 × IVec S128 1 × IVec S30522 1 × IVec S_ 1 × IVec S128x256x768 1 × IVec S128x256 1 × IVec S128x30522 1 × IVec S128 1 :=
  let main_c : IVec S_ 1 := constantI S_ 1 1#1
  let main_v0 : IVec S128x30522 1 := broadcastInDim S128x30522 ![] bcast_S_S128x30522 main_c
  let main_c_0 : IVec S_ 1 := constantI S_ 1 1#1
  let main_v1 : IVec S128 1 := broadcastInDim S128 ![] bcast_S_S128 main_c_0
  let main_c_1 : IVec S_ 1 := constantI S_ 1 1#1
  let main_v2 : IVec S30522 1 := broadcastInDim S30522 ![] bcast_S_S30522 main_c_1
  let main_c_2 : IVec S_ 1 := constantI S_ 1 1#1
  let main_v3 : IVec S128x256x768 1 := broadcastInDim S128x256x768 ![] bcast_S_S128x256x768 main_c_2
  let main_c_3 : IVec S_ 1 := constantI S_ 1 1#1
  let main_v4 : IVec S128x256 1 := broadcastInDim S128x256 ![] bcast_S_S128x256 main_c_3
  let main_c_4 : IVec S_ 1 := constantI S_ 1 1#1
  let main_v5 : IVec S128x30522 1 := broadcastInDim S128x30522 ![] bcast_S_S128x30522 main_c_4
  let main_cst : FVec F S_ .f32 := constant S_ .f32 0x00000000#32
  let main_v6 : IVec S_ 1 := cmpf .oge main_arg11 main_cst
  let main_v7 : IVec S128 1 := broadcastInDim S128 ![] bcast_S_S128 main_v6
  let main_c_5 : IVec S_ 1 := constantI S_ 1 1#1
  (main_v0, main_v1, main_v2, main_c_5, main_v3, main_v4, main_v5, main_v7)
-- ==== Pre_impact_nonneg.lean ====
abbrev S128x256x768 : Shape := ⟨3, ![128, 256, 768]⟩
abbrev S128x256 : Shape := ⟨2, ![128, 256]⟩
abbrev S128 : Shape := ⟨1, ![128]⟩
abbrev S768x768 : Shape := ⟨2, ![768, 768]⟩
abbrev S768 : Shape := ⟨1, ![768]⟩
abbrev S30522x768 : Shape := ⟨2, ![30522, 768]⟩
abbrev S30522 : Shape := ⟨1, ![30522]⟩
abbrev S_ : Shape := ⟨0, ![]⟩

class Facts : Prop where

variable [Facts]

def fn {F : FTy → Type} [FloatOps F] (main_arg0 : FVec F S128x256x768 .fp8e4m3) (main_arg1 : FVec F S128x256 .f32) (main_arg2 : IVec S128 32) (main_arg3 : FVec F S768x768 .fp8e4m3) (main_arg4 : FVec F S768 .f32) (main_arg5 : FVec F S768 .f32) (main_arg6 : FVec F S768 .f32) (main_arg7 : FVec F S768 .f32) (main_arg8 : FVec F S30522x768 .fp8e4m3) (main_arg9 : FVec F S30522 .f32) (main_arg10 : FVec F S30522 .f32) (main_arg11 : FVec F S_ .f32) : IVec S_ 1 :=
  let main_cst : FVec F S_ .f32 := constant S_ .f32 0x00000000#32
  let main_v0 : IVec S_ 1 := cmpf .oge main_arg11 main_cst
  main_v0
-- ==== Kernel.lean ====
abbrev S128x256x768 : Shape := ⟨3, ![128, 256, 768]⟩
abbrev S128x256 : Shape := ⟨2, ![128, 256]⟩
abbrev S128 : Shape := ⟨1, ![128]⟩
abbrev S768x768 : Shape := ⟨2, ![768, 768]⟩
abbrev S768 : Shape := ⟨1, ![768]⟩
abbrev S30522x768 : Shape := ⟨2, ![30522, 768]⟩
abbrev S30522 : Shape := ⟨1, ![30522]⟩
abbrev S_ : Shape := ⟨0, ![]⟩
abbrev S2x768 : Shape := ⟨2, ![2, 768]⟩
abbrev S30524x768 : Shape := ⟨2, ![30524, 768]⟩
abbrev S128x256x1 : Shape := ⟨3, ![128, 256, 1]⟩
abbrev S1x768 : Shape := ⟨2, ![1, 768]⟩
abbrev S1x256x768 : Shape := ⟨3, ![1, 256, 768]⟩
abbrev S1x256x1 : Shape := ⟨3, ![1, 256, 1]⟩
abbrev S256x768 : Shape := ⟨2, ![256, 768]⟩
abbrev S256x1 : Shape := ⟨2, ![256, 1]⟩
abbrev S256 : Shape := ⟨1, ![256]⟩
abbrev S1 : Shape := ⟨1, ![1]⟩
abbrev S1x30522 : Shape := ⟨2, ![1, 30522]⟩
abbrev S128x30522 : Shape := ⟨2, ![128, 30522]⟩
abbrev S128x1 : Shape := ⟨2, ![128, 1]⟩
abbrev S1x1 : Shape := ⟨2, ![1, 1]⟩
abbrev S512x768 : Shape := ⟨2, ![512, 768]⟩
abbrev S1x512 : Shape := ⟨2, ![1, 512]⟩
abbrev S128x512 : Shape := ⟨2, ![128, 512]⟩
abbrev S256x512 : Shape := ⟨2, ![256, 512]⟩
abbrev S512 : Shape := ⟨1, ![512]⟩

abbrev nBuf : Space → Nat
  | .hbm => 35
  | .vmem => 31
  | .smem => 2
  | _ => 0

abbrev bufTy : (tb : Table) → Fin (tcTables nBuf tb) → BufTy
  | .hbm, ⟨0, _⟩ => ⟨S128x256x768, .fp8e4m3⟩
  | .hbm, ⟨1, _⟩ => ⟨S128x256, .f32⟩
  | .hbm, ⟨2, _⟩ => ⟨S128, .i32⟩
  | .hbm, ⟨3, _⟩ => ⟨S768x768, .fp8e4m3⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S30522x768, .fp8e4m3⟩
  | .hbm, ⟨9, _⟩ => ⟨S30522, .f32⟩
  | .hbm, ⟨10, _⟩ => ⟨S30522, .f32⟩
  | .hbm, ⟨11, _⟩ => ⟨S_, .f32⟩
  | .hbm, ⟨12, _⟩ => ⟨S2x768, .fp8e4m3⟩
  | .hbm, ⟨13, _⟩ => ⟨S30524x768, .fp8e4m3⟩
  | .hbm, ⟨14, _⟩ => ⟨S128x256x1, .f32⟩
  | .hbm, ⟨15, _⟩ => ⟨S1x768, .f32⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S128x256x768, .fp8e4m3⟩
  | .hbm, ⟨20, _⟩ => ⟨S128x256x1, .f32⟩
  | .hbm, ⟨21, _⟩ => ⟨S1, .f32⟩
  | .hbm, ⟨22, _⟩ => ⟨S1x30522, .f32⟩
  | .hbm, ⟨23, _⟩ => ⟨S1x30522, .f32⟩
  | .hbm, ⟨24, _⟩ => ⟨S128x30522, .f32⟩
  | .hbm, ⟨25, _⟩ => ⟨S128x1, .f32⟩
  | .hbm, ⟨26, _⟩ => ⟨S1x30522, .f32⟩
  | .hbm, ⟨27, _⟩ => ⟨S1x1, .f32⟩
  | .hbm, ⟨28, _⟩ => ⟨S128x30522, .i8⟩
  | .hbm, ⟨29, _⟩ => ⟨S128x1, .f32⟩
  | .hbm, ⟨30, _⟩ => ⟨S128, .f32⟩
  | .hbm, ⟨31, _⟩ => ⟨S30522, .f32⟩
  | .hbm, ⟨32, _⟩ => ⟨S_, .f32⟩
  | .hbm, ⟨33, _⟩ => ⟨S128x256, .f32⟩
  | .hbm, ⟨34, _⟩ => ⟨S128, .f32⟩
  | .local _ .vmem, ⟨0, _⟩ => ⟨S1x256x768, .fp8e4m3⟩
  | .local _ .vmem, ⟨1, _⟩ => ⟨S1x256x768, .fp8e4m3⟩
  | .local _ .vmem, ⟨2, _⟩ => ⟨S1x256x1, .f32⟩
  | .local _ .vmem, ⟨3, _⟩ => ⟨S1x256x1, .f32⟩
  | .local _ .vmem, ⟨4, _⟩ => ⟨S768x768, .fp8e4m3⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x256x768, .fp8e4m3⟩
  | .local _ .vmem, ⟨10, _⟩ => ⟨S1x256x768, .fp8e4m3⟩
  | .local _ .vmem, ⟨11, _⟩ => ⟨S1x256x1, .f32⟩
  | .local _ .vmem, ⟨12, _⟩ => ⟨S1x256x1, .f32⟩
  | .local _ .vmem, ⟨13, _⟩ => ⟨S128x256x768, .fp8e4m3⟩
  | .local _ .vmem, ⟨14, _⟩ => ⟨S128x256x1, .f32⟩
  | .local _ .vmem, ⟨15, _⟩ => ⟨S512x768, .fp8e4m3⟩
  | .local _ .vmem, ⟨16, _⟩ => ⟨S512x768, .fp8e4m3⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S128x512, .f32⟩
  | .local _ .vmem, ⟨22, _⟩ => ⟨S128x512, .f32⟩
  | .local _ .vmem, ⟨23, _⟩ => ⟨S128x1, .f32⟩
  | .local _ .vmem, ⟨24, _⟩ => ⟨S1x512, .f32⟩
  | .local _ .vmem, ⟨25, _⟩ => ⟨S1x512, .f32⟩
  | .local _ .vmem, ⟨26, _⟩ => ⟨S1x1, .f32⟩
  | .local _ .vmem, ⟨27, _⟩ => ⟨S128x512, .i8⟩
  | .local _ .vmem, ⟨28, _⟩ => ⟨S128x512, .i8⟩
  | .local _ .vmem, ⟨29, _⟩ => ⟨S128x1, .f32⟩
  | .local _ .vmem, ⟨30, _⟩ => ⟨S128x512, .f32⟩
  | .local _ .smem, ⟨0, _⟩ => ⟨S128, .i32⟩
  | .local _ .smem, ⟨1, _⟩ => ⟨S1, .f32⟩
  | _, _ => ⟨S128x256x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev main_v11_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_scratch0 : Ref sig .tc := ⟨.vmem, 30, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem11_0 : DmaSem sig := 29
abbrev cc1_sem11_1 : DmaSem sig := 30
abbrev cc1_sem12_0 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x768 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![60], ![false]⟩

@[reducible] def k1_t1_loop : Scf.Loop 32 :=
  let c0_i32 : BitVec 32 := 0#32
  let c128_i32 : BitVec 32 := 128#32
  let v4 : BitVec 32 := Scalar.addi c0_i32 c128_i32
  let c1_i32 : BitVec 32 := 1#32
  ⟨c0_i32, v4, c1_i32⟩
def k1_off1 (k1_t1 : Fin k1_t1_loop.trips) : Fin 3 → Nat :=
  let c0_i32_38 : BitVec 32 := 0#32
  let c0_i32 : BitVec 32 := 0#32
  let c1_i32 : BitVec 32 := 1#32
  let arg15 : BitVec 32 := Scf.iv c0_i32 c1_i32 k1_t1
  let c1_i32_37 : BitVec 32 := 1#32
  let v61 : BitVec 32 := Scalar.muli arg15 c1_i32_37
  let v62 : BitVec 32 := Scalar.addi c0_i32_38 v61
  let v63 : Index := Scalar.indexCast v62
  let c0_39 : Index := 0#32
  let c0_40 : Index := 0#32
  ![v63.toNat, 0, 0]
def k1_off2 (k1_t1 : Fin k1_t1_loop.trips) : Fin 3 → Nat :=
  let c0_i32_38 : BitVec 32 := 0#32
  let c0_i32 : BitVec 32 := 0#32
  let c1_i32 : BitVec 32 := 1#32
  let arg15 : BitVec 32 := Scf.iv c0_i32 c1_i32 k1_t1
  let c1_i32_37 : BitVec 32 := 1#32
  let v61 : BitVec 32 := Scalar.muli arg15 c1_i32_37
  let v62 : BitVec 32 := Scalar.addi c0_i32_38 v61
  let v69 : Index := Scalar.indexCast v62
  let c0_44 : Index := 0#32
  let c0_45 : Index := 0#32
  ![v69.toNat, 0, 0]
def k1_off3 (k1_t1 : Fin k1_t1_loop.trips) : Fin 1 → Nat :=
  let c0_i32_38 : BitVec 32 := 0#32
  let c0_i32 : BitVec 32 := 0#32
  let c1_i32 : BitVec 32 := 1#32
  let arg15 : BitVec 32 := Scf.iv c0_i32 c1_i32 k1_t1
  let c1_i32_37 : BitVec 32 := 1#32
  let v61 : BitVec 32 := Scalar.muli arg15 c1_i32_37
  let v62 : BitVec 32 := Scalar.addi c0_i32_38 v61
  let v79 : Index := Scalar.indexCast v62
  ![v79.toNat]
def k1_off4 (k1_t1 : Fin k1_t1_loop.trips) : Fin 2 → Nat :=
  let c0_i32_38 : BitVec 32 := 0#32
  let c0_i32 : BitVec 32 := 0#32
  let c1_i32 : BitVec 32 := 1#32
  let arg15 : BitVec 32 := Scf.iv c0_i32 c1_i32 k1_t1
  let c1_i32_37 : BitVec 32 := 1#32
  let v61 : BitVec 32 := Scalar.muli arg15 c1_i32_37
  let v62 : BitVec 32 := Scalar.addi c0_i32_38 v61
  let v87 : Index := Scalar.indexCast v62
  let c0_48 : Index := 0#32
  ![v87.toNat, 0]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256x768 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x768 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S128x512 .i8 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S128x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== ReferenceIdeal.lean ====
abbrev S128x256x768 : Shape := ⟨3, ![128, 256, 768]⟩
abbrev S128x256 : Shape := ⟨2, ![128, 256]⟩
abbrev S128 : Shape := ⟨1, ![128]⟩
abbrev S768x768 : Shape := ⟨2, ![768, 768]⟩
abbrev S768 : Shape := ⟨1, ![768]⟩
abbrev S30522x768 : Shape := ⟨2, ![30522, 768]⟩
abbrev S30522 : Shape := ⟨1, ![30522]⟩
abbrev S_ : Shape := ⟨0, ![]⟩
abbrev S128x256x1 : Shape := ⟨3, ![128, 256, 1]⟩
abbrev S128x1x1 : Shape := ⟨3, ![128, 1, 1]⟩
abbrev S1x768 : Shape := ⟨2, ![1, 768]⟩
abbrev S1x30522 : Shape := ⟨2, ![1, 30522]⟩
abbrev S1 : Shape := ⟨1, ![1]⟩
abbrev S128x30522 : Shape := ⟨2, ![128, 30522]⟩
abbrev S128x1 : Shape := ⟨2, ![128, 1]⟩
abbrev S1x1 : Shape := ⟨2, ![1, 1]⟩
abbrev S32768x768 : Shape := ⟨2, ![32768, 768]⟩
abbrev S32768x1 : Shape := ⟨2, ![32768, 1]⟩
abbrev S32768 : Shape := ⟨1, ![32768]⟩
abbrev S32768x30522 : Shape := ⟨2, ![32768, 30522]⟩
abbrev S128x256x30522 : Shape := ⟨3, ![128, 256, 30522]⟩

abbrev nBuf : Space → Nat
  | .hbm => 34
  | .vmem => 19
  | .smem => 1
  | _ => 0

abbrev bufTy : (tb : Table) → Fin (tcTables nBuf tb) → BufTy
  | .hbm, ⟨0, _⟩ => ⟨S128x256x768, .fp8e4m3⟩
  | .hbm, ⟨1, _⟩ => ⟨S128x256, .f32⟩
  | .hbm, ⟨2, _⟩ => ⟨S128, .i32⟩
  | .hbm, ⟨3, _⟩ => ⟨S768x768, .fp8e4m3⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S30522x768, .fp8e4m3⟩
  | .hbm, ⟨9, _⟩ => ⟨S30522, .f32⟩
  | .hbm, ⟨10, _⟩ => ⟨S30522, .f32⟩
  | .hbm, ⟨11, _⟩ => ⟨S_, .f32⟩
  | .hbm, ⟨12, _⟩ => ⟨S128x256x1, .f32⟩
  | .hbm, ⟨13, _⟩ => ⟨S128x1x1, .i32⟩
  | .hbm, ⟨14, _⟩ => ⟨S1x768, .f32⟩
  | .hbm, ⟨15, _⟩ => ⟨S1x768, .f32⟩
  | .hbm, ⟨16, _⟩ => ⟨S1x768, .f32⟩
  | .hbm, ⟨17, _⟩ => ⟨S1x768, .f32⟩
  | .hbm, ⟨18, _⟩ => ⟨S1x30522, .f32⟩
  | .hbm, ⟨19, _⟩ => ⟨S1x30522, .f32⟩
  | .hbm, ⟨20, _⟩ => ⟨S1, .f32⟩
  | .hbm, ⟨21, _⟩ => ⟨S128x30522, .f32⟩
  | .hbm, ⟨22, _⟩ => ⟨S128x1, .f32⟩
  | .hbm, ⟨23, _⟩ => ⟨S1x30522, .f32⟩
  | .hbm, ⟨24, _⟩ => ⟨S1x1, .f32⟩
  | .hbm, ⟨25, _⟩ => ⟨S128x256x768, .fp8e4m3⟩
  | .hbm, ⟨26, _⟩ => ⟨S128x256x1, .f32⟩
  | .hbm, ⟨27, _⟩ => ⟨S128x30522, .i8⟩
  | .hbm, ⟨28, _⟩ => ⟨S128x1, .f32⟩
  | .hbm, ⟨29, _⟩ => ⟨S128, .f32⟩
  | .hbm, ⟨30, _⟩ => ⟨S30522, .f32⟩
  | .hbm, ⟨31, _⟩ => ⟨S_, .f32⟩
  | .hbm, ⟨32, _⟩ => ⟨S128x256, .f32⟩
  | .hbm, ⟨33, _⟩ => ⟨S128, .f32⟩
  | .local _ .vmem, ⟨0, _⟩ => ⟨S128x256x768, .fp8e4m3⟩
  | .local _ .vmem, ⟨1, _⟩ => ⟨S128x256x1, .f32⟩
  | .local _ .vmem, ⟨2, _⟩ => ⟨S128x1x1, .i32⟩
  | .local _ .vmem, ⟨3, _⟩ => ⟨S768x768, .fp8e4m3⟩
  | .local _ .vmem, ⟨4, _⟩ => ⟨S1x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S30522x768, .fp8e4m3⟩
  | .local _ .vmem, ⟨9, _⟩ => ⟨S1x30522, .f32⟩
  | .local _ .vmem, ⟨10, _⟩ => ⟨S1x30522, .f32⟩
  | .local _ .vmem, ⟨11, _⟩ => ⟨S128x30522, .f32⟩
  | .local _ .vmem, ⟨12, _⟩ => ⟨S128x1, .f32⟩
  | .local _ .vmem, ⟨13, _⟩ => ⟨S1x30522, .f32⟩
  | .local _ .vmem, ⟨14, _⟩ => ⟨S1x1, .f32⟩
  | .local _ .vmem, ⟨15, _⟩ => ⟨S128x256x768, .fp8e4m3⟩
  | .local _ .vmem, ⟨16, _⟩ => ⟨S128x256x1, .f32⟩
  | .local _ .vmem, ⟨17, _⟩ => ⟨S128x30522, .i8⟩
  | .local _ .vmem, ⟨18, _⟩ => ⟨S128x1, .f32⟩
  | .local _ .smem, ⟨0, _⟩ => ⟨S1, .f32⟩
  | _, _ => ⟨S128x256x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg11_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S128x256x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S30522x768 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x30522 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x30522 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x30522 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x30522 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x256x768 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x256x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x30522 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.KernelIdeal.Transform.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first call: one document's quantised transform

    The call runs over 128 grid points, one per document.  At a point the body reads one document's codes and
    scales and the whole of the five parameter arrays, and stores that document's quantised codes (`out0_7`) and
    scales (`out0_8`).  Everything here is stated at a parameter `V`: what the buffers hold when the call begins. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- This input window's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x256x768 := Rect.unit (s := S1x256x768) ![0, 0, 0] S1x256x768.size inb_S1x256x768_S1x256x768_0_0_0
abbrev r0_1 : Rect S768x768 := Rect.unit (s := S768x768) ![0, 0] S768x768.size inb_S768x768_S768x768_0_0
abbrev r0_2 : Rect S1x256x1 := Rect.unit (s := S1x256x1) ![0, 0, 0] S1x256x1.size inb_S1x256x1_S1x256x1_0_0_0
abbrev r0_3 : Rect S1x768 := Rect.unit (s := S1x768) ![0, 0] S1x768.size inb_S1x768_S1x768_0_0

/-! ## What the body leaves in each output window's buffer -/

/-! ### Values of the body that the stores' payloads, spelt out, would write more than once

    Each is a vector the body binds (often a part call's result), stated over the input windows' blocks and
    numbered on from the skeleton's payload functions (`k0_pay7` …, after `k0_pay6`), so that
    `out0_W` and the values after it name it instead of spelling it out (`unfold_out out0_W` opens a canon
    with them, `unfold_payloads` opens them with the payloads); the comment after each is the printed function's
    name for the value (a count appended where that name is bound again). -/

def k0_pay7 (x0 : Vec F S1x256x768 .fp8e4m3) (x1 : Vec F S1x256x1 .f32) (x2 : Vec F S768x768 .fp8e4m3) (x3 : Vec F S1x768 .f32) (x4 : Vec F S1x768 .f32) (x5 : Vec F S1x768 .f32) (x6 : Vec F S1x768 .f32) : FVec F S256x768 .f32 :=
  k0_pay5 (View.ld x0 r0_0) (View.ld x2 r0_1) (View.ld x1 r0_2) (View.ld x3 r0_3) (View.ld x4 r0_3) -- `v29`
def k0_pay8 (x0 : Vec F S1x256x768 .fp8e4m3) (x1 : Vec F S1x256x1 .f32) (x2 : Vec F S768x768 .fp8e4m3) (x3 : Vec F S1x768 .f32) (x4 : Vec F S1x768 .f32) (x5 : Vec F S1x768 .f32) (x6 : Vec F S1x768 .f32) : FVec F S256x1 .f32 :=
  k0_pay6 (View.ld x0 r0_0) (View.ld x2 r0_1) (View.ld x1 r0_2) (View.ld x3 r0_3) (View.ld x4 r0_3) -- `v37`

/-- Window 7's staging buffer after the body, from the input windows' blocks: its 1 store as pieces, LAST
    FIRST (Lib/Pipeline/FrameBody.lean `View.canon`; the payloads are the skeleton's and the values stated above). -/
def out0_7 (x0 : Vec F S1x256x768 .fp8e4m3) (x1 : Vec F S1x256x1 .f32) (x2 : Vec F S768x768 .fp8e4m3) (x3 : Vec F S1x768 .f32) (x4 : Vec F S1x768 .f32) (x5 : Vec F S1x768 .f32) (x6 : Vec F S1x768 .f32) : Vec F S1x256x768 .fp8e4m3 :=
  View.canon [⟨r0_0, k0_pay3 (k0_pay7 x0 x1 x2 x3 x4 x5 x6) (k0_pay8 x0 x1 x2 x3 x4 x5 x6) (View.ld x5 r0_3) (View.ld x6 r0_3)⟩]

/-- Its stores tile the buffer (checked by evaluation), so they cover it. -/
theorem cover0_7 (p0 : Vec F S1x256x768 .fp8e4m3) (y : S1x256x768.Idx) :
    ∃ pc ∈ ([⟨r0_0, p0⟩] : List (View.Piece (Elt F) S1x256x768 .fp8e4m3)), y ∈ pc.1.set :=
  View.cover_of_tiled [⟨r0_0, p0⟩] S1x256x768.size (by rfl) y

/-- Window 8's staging buffer after the body, from the input windows' blocks: its 1 store as pieces, LAST
    FIRST (Lib/Pipeline/FrameBody.lean `View.canon`; the payloads are the skeleton's and the values stated above). -/
def out0_8 (x0 : Vec F S1x256x768 .fp8e4m3) (x1 : Vec F S1x256x1 .f32) (x2 : Vec F S768x768 .fp8e4m3) (x3 : Vec F S1x768 .f32) (x4 : Vec F S1x768 .f32) (x5 : Vec F S1x768 .f32) (x6 : Vec F S1x768 .f32) : Vec F S1x256x1 .f32 :=
  View.canon [⟨r0_2, k0_pay4 (k0_pay7 x0 x1 x2 x3 x4 x5 x6) (k0_pay8 x0 x1 x2 x3 x4 x5 x6) (View.ld x5 r0_3) (View.ld x6 r0_3)⟩]

/-- Its stores tile the buffer (checked by evaluation), so they cover it. -/
theorem cover0_8 (p0 : Vec F S1x256x1 .f32) (y : S1x256x1.Idx) :
    ∃ pc ∈ ([⟨r0_2, p0⟩] : List (View.Piece (Elt F) S1x256x1 .f32)), y ∈ pc.1.set :=
  View.cover_of_tiled [⟨r0_2, p0⟩] S1x256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x256x768 .fp8e4m3) (harg1 : arg1.IsWhole) (arg2 : Memref sig .tc .vmem S1x256x1 .f32) (harg2 : arg2.IsWhole) (arg3 : Memref sig .tc .vmem S768x768 .fp8e4m3) (harg3 : arg3.IsWhole) (arg4 : Memref sig .tc .vmem S1x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S1x256x768 .fp8e4m3) (harg8 : arg8.IsWhole) (arg9 : Memref sig .tc .vmem S1x256x1 .f32) (harg9 : arg9.IsWhole)
    (x0 : Vec F S1x256x768 .fp8e4m3) (x1 : Vec F S1x256x1 .f32) (x2 : Vec F S768x768 .fp8e4m3) (x3 : Vec F S1x768 .f32) (x4 : Vec F S1x768 .f32) (x5 : Vec F S1x768 .f32) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0_transform i arg1 harg1 arg2 harg2 arg3 harg3 arg4 harg4 arg5 harg5 arg6 harg6 arg7 harg7 arg8 harg8 arg9 harg9) K := by
  simp only [cc0_transform_eq_skeleton]; unfold cc0_transform_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rfl
  iexists _; isplitr
  swap; · iexact H8
  ipureintro
  refine (View.read_writes_eq_canon _ _ _ (cover0_8 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Pf

end
-- ==== Proof.KernelIdeal.Pool.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.ValueIdx
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second call: one tile of 512 vocabulary columns

    At a grid point the body reads the document lengths, the impact scale, all documents' codes and scales and one
    tile of the vocabulary's codes, scales and biases.  A loop over the 128 documents leaves in a scratch array each
    document's largest logit per column; the outputs of the point are then functions of that array.  This module
    states what the scratch array holds after the loop (`mxv`) and what the six outputs hold after the body, for ANY
    contents of the staged inputs. -/

theorem trips_eq : k1_t1_loop.trips = 128 := by decide +kernel

/-- The trip of the loop that handles document `d`. -/
abbrev tripOf (d : Fin 128) : Fin k1_t1_loop.trips := ⟨d.val, by rw [trips_eq]; exact d.isLt⟩

/-- What trip `k` stores: the row of document `k`'s largest logits over its visible positions. -/
def mxRow (x0 : Vec F S128 .i32) (x2 : Vec F S128x256x768 .fp8e4m3) (x3 : Vec F S128x256x1 .f32) (x4 : Vec F S512x768 .fp8e4m3) (x5 : Vec F S1x512 .f32) (x6 : Vec F S1x512 .f32) (k : Fin k1_t1_loop.trips) : FVec F S1x512 .f32 :=
  k1_pay8 x5 x6 (View.ld x2 (Rect.unit (s := S128x256x768) (k1_off1 k) S1x256x768.size (k1_off1_inb k))) x4
    (View.ld x3 (Rect.unit (s := S128x256x1) (k1_off2 k) S1x256x1.size (k1_off2_inb k)))
    (View.ld x0 (Rect.unit (s := S128) (k1_off3 k) S1.size (k1_off3_inb k)) (Shape.Idx.first (numel1_S1.symm ▸ Nat.one_pos)))

/-- The scratch array after the loop: row `d` is document `d`'s. -/
def mxv (x0 : Vec F S128 .i32) (x2 : Vec F S128x256x768 .fp8e4m3) (x3 : Vec F S128x256x1 .f32) (x4 : Vec F S512x768 .fp8e4m3) (x5 : Vec F S1x512 .f32) (x6 : Vec F S1x512 .f32) : Vec F S128x512 .f32 :=
  fun y => mxRow x0 x2 x3 x4 x5 x6 (tripOf (y 0)) (ix2 0 (y 1))

/-- The one piece trip `k` writes: its document's row. -/
theorem trip_piece (𝒱 : Variants) (c : Dev nD) (bd : Option 𝒱.V) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole)
    (x0 : Vec F S128 .i32) (x2 : Vec F S128x256x768 .fp8e4m3) (x3 : Vec F S128x256x1 .f32) (x4 : Vec F S512x768 .fp8e4m3) (v0 : Vec F S1x512 .f32) (v2 : Vec F S1x512 .f32) (k : Fin k1_t1_loop.trips) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 (harg1.unread x0) (harg3.unread x2) (harg4.unread x3) (harg5.unread x4) k).1
      = [⟨Rect.unit (s := S128x512) (k1_off4 k) S1x512.size (k1_off4_inb k), mxRow x0 x2 x3 x4 v0 v2 k⟩] := by
  have e : ∀ (z0 : BufTy.Contents (Elt F) arg1.view.ty) (z2 : BufTy.Contents (Elt F) arg3.view.ty) (z3 : BufTy.Contents (Elt F) arg4.view.ty) (z4 : BufTy.Contents (Elt F) arg5.view.ty),
      (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 z0 z2 z3 z4 k).1
        = [⟨Rect.unit (s := S128x512) (k1_off4 k) S1x512.size (k1_off4_inb k), mxRow (arg1.view.read (Elt F) z0) (arg3.view.read (Elt F) z2) (arg4.view.read (Elt F) z3)
            (View.ld (arg5.view.read (Elt F) z4) (Rect.unit (s := S512x768) ![0, 0] S512x768.size inb_S512x768_S512x768_0_0)) v0 v2 k⟩] := by
    intro z0 z2 z3 z4
    unfold trip_k1_t1
    rfl
  rw [e, harg1.read_unread, harg3.read_unread, harg4.read_unread, harg5.read_unread,
    View.ld_unit_zero (S := S512x768) (by funext a; fin_cases a <;> rfl)]

/-- After `n` trips, the rows of the documents below `n` are theirs. -/
theorem read_pb (𝒱 : Variants) (c : Dev nD) (bd : Option 𝒱.V) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole)
    (x0 : Vec F S128 .i32) (x2 : Vec F S128x256x768 .fp8e4m3) (x3 : Vec F S128x256x1 .f32) (x4 : Vec F S512x768 .fp8e4m3) (v0 : Vec F S1x512 .f32) (v2 : Vec F S1x512 .f32)
    (f : BufTy.Contents (Elt F) arg14.view.ty) (n : ℕ) (hn : n ≤ 128) (y : S128x512.Idx) (hy : (y 0).val < n) :
    arg14.view.read (Elt F) (arg14.view.writes (Elt F) f (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 (harg1.unread x0) (harg3.unread x2) (harg4.unread x3) (harg5.unread x4) n)) y
      = mxv x0 x2 x3 x4 v0 v2 y := by
  induction n with
  | zero => omega
  | succ n ih =>
    have hk : n < k1_t1_loop.trips := by rw [trips_eq]; omega
    have e := pb_k1_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 (harg1.unread x0) (harg3.unread x2) (harg4.unread x3) (harg5.unread x4) ⟨n, hk⟩
    dsimp only at e
    rw [e, tripL_k1_t1, trip_piece, List.singleton_append]
    by_cases h : (y 0).val = n
    · refine (View.read_writes_cons_rows_of_mem (o := n) _ _ (k1_off4_inb ⟨n, hk⟩) _ _ y (ix2 0 (y 1)) (k1_off4_eq ⟨n, hk⟩) ?_ ?_).trans ?_
      · rw [h]; rfl
      · rfl
      · have : tripOf (y 0) = (⟨n, hk⟩ : Fin k1_t1_loop.trips) := Fin.ext h
        unfold mxv; rw [this]
    · refine (View.read_writes_cons_rows_of_not_mem (o := n) (W := 1) _ _ (k1_off4_inb ⟨n, hk⟩) _ _ y (k1_off4_eq ⟨n, hk⟩) rfl ?_).trans (ih (by omega) (by omega))
      left; omega

/-- The whole-array load of the scratch array after the loop. -/
theorem readAt_pb (𝒱 : Variants) (c : Dev nD) (bd : Option 𝒱.V) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole)
    (x0 : Vec F S128 .i32) (x2 : Vec F S128x256x768 .fp8e4m3) (x3 : Vec F S128x256x1 .f32) (x4 : Vec F S512x768 .fp8e4m3) (v0 : Vec F S1x512 .f32) (v2 : Vec F S1x512 .f32)
    (f : BufTy.Contents (Elt F) arg14.view.ty) :
    arg14.view.readAt (Elt F) (Rect.unit (s := S128x512) ![0, 0] S128x512.size inb_S128x512_S128x512_0_0).toLoadRect (arg14.view.writes (Elt F) f (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 (harg1.unread x0) (harg3.unread x2) (harg4.unread x3) (harg5.unread x4) (Scf.trips k1_t1_loop.lb k1_t1_loop.ub k1_t1_loop.st)))
      = mxv x0 x2 x3 x4 v0 v2 := by
  rw [View.readAt_eq_ld, View.ld_unit_zero (S := S128x512) (by funext a; fin_cases a <;> rfl)]
  funext y
  have e : Scf.trips k1_t1_loop.lb k1_t1_loop.ub k1_t1_loop.st = 128 := trips_eq
  rw [e]
  exact read_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 v0 v2 f 128 le_rfl y (y 0).isLt

/-- A store through the whole rectangle, made last, leaves its payload. -/
theorem read_writes_whole {sp : Space} {s : Shape} {e : EltTy} (v : View sig .tc sp s e) (f : v.ty.Contents (Elt F)) {off : Fin s.rank → ℕ}
    (h : off = fun _ => 0) (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  exact View.read_writes_cons_unit_of_mem v f inb w L y y h (fun a => by simp)

theorem off2_zero : (![0, 0] : Fin 2 → ℕ) = fun _ => 0 := by funext a; fin_cases a <;> rfl

/-- A load through the whole rectangle of given contents reads them. -/
theorem readAt_whole {sp : Space} {s : Shape} {e : EltTy} (mr : Memref sig .tc sp s e) (hm : mr.IsWhole) {off : Fin s.rank → ℕ}
    (h : off = fun _ => 0) (inb : ∀ a, off a + s.size a ≤ s.size a) (w : s.Idx → Elt F e) :
    mr.view.readAt (Elt F) (Rect.unit off s.size inb).toLoadRect (hm.unread w) = w := by
  rw [View.readAt_eq_ld, View.ld_unit_zero h, hm.read_unread]

/-- The condition under which the body clears its accumulators. -/
abbrev cond1_0 (i : grid1.Coords) : Prop := (Scalar.cmpi .ne (Scalar.extui (Scalar.cmpi .eq (BitVec.ofNat 32 (i 0).val) 0#32)) 0#32) = 1#1

/-- It holds at the first grid point only. -/
theorem hcond1_0 : ∀ t : Fin cfg1.N, cond1_0 (grid1.coords t) ↔ t.val % 60 = 0 :=
  (fun t => by
    have ht : t.val < 60 := Nat.lt_of_lt_of_eq t.isLt N_1
    have e0 : (grid1.coords t 0).val = t.val / 1 % 60 := Pipeline.Grid.coords_val t 0 (by decide) rfl
    simp only [cond1_0, e0]
    word_cmp
   : ∀ t : Fin grid1.N, cond1_0 (grid1.coords t) ↔ t.val % 60 = 0)

/-- The impact scale the body reads. -/
def impOf (x1 : Vec F S1 .f32) : Elt F .f32 :=
  View.ld x1 (Rect.unit (s := S1) ![0] S1.size inb_S1_S1_0) (Shape.Idx.first (numel1_S1.symm ▸ Nat.one_pos))

set_option maxHeartbeats 1000000 in
/-- The body at the first grid point: the inputs stay as they were, the outputs end at these functions of them. -/
theorem sound_pool_A (c : Dev nD) (E : Set ℕ) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole) (hc0 : cond1_0 i)
    (x0 : Vec F S128 .i32) (x1 : Vec F S1 .f32) (x2 : Vec F S128x256x768 .fp8e4m3) (x3 : Vec F S128x256x1 .f32) (x4 : Vec F S512x768 .fp8e4m3) (x5 : Vec F S1x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay9 i (mxv x0 x2 x3 x4 x5 x6)) ∗ owns (c : Thread nD τ) arg9 fullShare (k1_pay5 (k1_pay9 i (mxv x0 x2 x3 x4 x5 x6)) (k1_pay2 (F := F))) ∗ owns (c : Thread nD τ) arg10 fullShare (k1_pay1 (k1_pay9 i (mxv x0 x2 x3 x4 x5 x6))) ∗ owns (c : Thread nD τ) arg11 fullShare (k1_pay7 (k1_pay9 i (mxv x0 x2 x3 x4 x5 x6)) (k1_pay4 (F := F))) ∗ owns (c : Thread nD τ) arg12 fullShare (k1_pay10 i (impOf x1) (mxv x0 x2 x3 x4 x5 x6)) ∗ owns (c : Thread nD τ) arg13 fullShare (k1_pay6 (k1_pay11 i (impOf x1) (mxv x0 x2 x3 x4 x5 x6)) (k1_pay12 (F := F)) (k1_pay3 (F := F))) ∗ (∃ d, owns (c : Thread nD τ) arg14 fullShare d)) -∗ K ⟨⟩))
      ⊢ wp frame (wpE (defs₀ (F := F)) Variants.none c none) E (cc1_pool i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1_pool_eq_skeleton]; unfold cc1_pool_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  have hrd0 : ∀ (𝒱 : Variants) (c : Dev nD) (bd : Option 𝒱.V) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole) (v0 : Vec F S1x512 .f32) (v2 : Vec F S1x512 .f32) (X_arg1 : BufTy.Contents (Elt F) arg1.view.ty) (X_arg3 : BufTy.Contents (Elt F) arg3.view.ty) (X_arg4 : BufTy.Contents (Elt F) arg4.view.ty) (X_arg5 : BufTy.Contents (Elt F) arg5.view.ty) (hrdF : BufTy.Contents (Elt F) arg14.view.ty) (hrdB : LoadRect S128x512), arg14.view.readAt (Elt F) hrdB (arg14.view.writes (Elt F) hrdF (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st))) = arg14.view.readCov (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st)) hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 hrdF hrdB => View.readAt_writes_of_cover _ hrdF _ hrdB (fun hrdJ => View.cover_of_tiledL (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st)) S1x512.size (by sl_kernel_rfl) (hrdB.idx hrdJ))
  have hM : (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect) = mxv x0 x2 x3 x4 x5 x6 := by
    unfold View.readCov
    rw [readAt_pb, readAt_whole arg6 harg6 off2_zero, readAt_whole arg7 harg7 off2_zero]
  have hI : (arg2.view.readAt (Elt F) (Rect.unit (s := S1) ![0] S1.size inb_S1_S1_0).toLoadRect (harg2.unread x1) (Shape.Idx.first (numel1_S1.symm ▸ Nat.one_pos))) = impOf x1 := by
    rw [View.readAt_eq_ld, harg2.read_unread]; rfl
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ off2_zero _ _ _).trans ?_
    show (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) = _
    rw [hM]
  isplitl [H8]
  · iexists _; isplitr
    swap; · iexact H8
    ipureintro
    refine (read_writes_whole _ _ off2_zero _ _ _).trans ?_
    show k1_pay5 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (arg9.view.readCov [⟨Rect.unit (s := S128x1) ![0, 0] S128x1.size inb_S128x1_S128x1_0_0, k1_pay2 (F := F)⟩] (Rect.unit (s := S128x1) ![0, 0] S128x1.size inb_S128x1_S128x1_0_0).toLoadRect) = _
    rw [hM, View.readCov_unit_zero _ off2_zero]
  isplitl [H9]
  · iexists _; isplitr
    swap; · iexact H9
    ipureintro
    refine (read_writes_whole _ _ off2_zero _ _ _).trans ?_
    show k1_pay1 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) = _
    rw [hM]
  isplitl [H10]
  · iexists _; isplitr
    swap; · iexact H10
    ipureintro
    refine (read_writes_whole _ _ off2_zero _ _ _).trans ?_
    show k1_pay7 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (arg11.view.readCov [⟨Rect.unit (s := S1x1) ![0, 0] S1x1.size inb_S1x1_S1x1_0_0, k1_pay4 (F := F)⟩] (Rect.unit (s := S1x1) ![0, 0] S1x1.size inb_S1x1_S1x1_0_0).toLoadRect) = _
    rw [hM, View.readCov_unit_zero _ off2_zero]
  isplitl [H11]
  · iexists _; isplitr
    swap; · iexact H11
    ipureintro
    refine (read_writes_whole _ _ off2_zero _ _ _).trans ?_
    show k1_pay10 i (arg2.view.readAt (Elt F) (Rect.unit (s := S1) ![0] S1.size inb_S1_S1_0).toLoadRect (harg2.unread x1) (Shape.Idx.first (numel1_S1.symm ▸ Nat.one_pos))) (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect) = _
    rw [hM, hI]
  isplitl [H12]
  · iexists _; isplitr
    swap; · iexact H12
    ipureintro
    refine (read_writes_whole _ _ off2_zero _ _ _).trans ?_
    show k1_pay6 (k1_pay11 i (arg2.view.readAt (Elt F) (Rect.unit (s := S1) ![0] S1.size inb_S1_S1_0).toLoadRect (harg2.unread x1) (Shape.Idx.first (numel1_S1.symm ▸ Nat.one_pos))) (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (k1_pay12 (F := F)) (arg13.view.readCov [⟨Rect.unit (s := S128x1) ![0, 0] S128x1.size inb_S128x1_S128x1_0_0, k1_pay3 (F := F)⟩] (Rect.unit (s := S128x1) ![0, 0] S128x1.size inb_S128x1_S128x1_0_0).toLoadRect) = _
    rw [hM, hI, View.readCov_unit_zero _ off2_zero]
  iexists _, _; isplitr; swap; · iexact HS0
  ipureintro; rfl

set_option maxHeartbeats 1000000 in
/-- The body at a later grid point: the inputs stay as they were, the outputs end at these functions of them. -/
theorem sound_pool_B (c : Dev nD) (E : Set ℕ) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole) (hc0 : ¬cond1_0 i)
    (x0 : Vec F S128 .i32) (x1 : Vec F S1 .f32) (x2 : Vec F S128x256x768 .fp8e4m3) (x3 : Vec F S128x256x1 .f32) (x4 : Vec F S512x768 .fp8e4m3) (x5 : Vec F S1x512 .f32) (x6 : Vec F S1x512 .f32) (y8 : Vec F S128x1 .f32) (y10 : Vec F S1x1 .f32) (y12 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ (∃ d, owns (c : Thread nD τ) arg10 fullShare d) ∗ owns (c : Thread nD τ) arg11 fullShare y10 ∗ (∃ d, owns (c : Thread nD τ) arg12 fullShare d) ∗ owns (c : Thread nD τ) arg13 fullShare y12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay9 i (mxv x0 x2 x3 x4 x5 x6)) ∗ owns (c : Thread nD τ) arg9 fullShare (k1_pay5 (k1_pay9 i (mxv x0 x2 x3 x4 x5 x6)) y8) ∗ owns (c : Thread nD τ) arg10 fullShare (k1_pay1 (k1_pay9 i (mxv x0 x2 x3 x4 x5 x6))) ∗ owns (c : Thread nD τ) arg11 fullShare (k1_pay7 (k1_pay9 i (mxv x0 x2 x3 x4 x5 x6)) y10) ∗ owns (c : Thread nD τ) arg12 fullShare (k1_pay10 i (impOf x1) (mxv x0 x2 x3 x4 x5 x6)) ∗ owns (c : Thread nD τ) arg13 fullShare (k1_pay6 (k1_pay11 i (impOf x1) (mxv x0 x2 x3 x4 x5 x6)) (k1_pay12 (F := F)) y12) ∗ (∃ d, owns (c : Thread nD τ) arg14 fullShare d)) -∗ K ⟨⟩))
      ⊢ wp frame (wpE (defs₀ (F := F)) Variants.none c none) E (cc1_pool i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1_pool_eq_skeleton]; unfold cc1_pool_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%f10, %hf10, H10⟩, ⟨%d11, %f11, -, H11⟩, ⟨%f12, %hf12, H12⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg11.eq_unread hf10; obtain rfl := harg13.eq_unread hf12
  have hrd0 : ∀ (𝒱 : Variants) (c : Dev nD) (bd : Option 𝒱.V) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole) (v0 : Vec F S1x512 .f32) (v2 : Vec F S1x512 .f32) (X_arg1 : BufTy.Contents (Elt F) arg1.view.ty) (X_arg3 : BufTy.Contents (Elt F) arg3.view.ty) (X_arg4 : BufTy.Contents (Elt F) arg4.view.ty) (X_arg5 : BufTy.Contents (Elt F) arg5.view.ty) (hrdF : BufTy.Contents (Elt F) arg14.view.ty) (hrdB : LoadRect S128x512), arg14.view.readAt (Elt F) hrdB (arg14.view.writes (Elt F) hrdF (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st))) = arg14.view.readCov (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st)) hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 hrdF hrdB => View.readAt_writes_of_cover _ hrdF _ hrdB (fun hrdJ => View.cover_of_tiledL (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st)) S1x512.size (by sl_kernel_rfl) (hrdB.idx hrdJ))
  have hM : (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect) = mxv x0 x2 x3 x4 x5 x6 := by
    unfold View.readCov
    rw [readAt_pb, readAt_whole arg6 harg6 off2_zero, readAt_whole arg7 harg7 off2_zero]
  have hI : (arg2.view.readAt (Elt F) (Rect.unit (s := S1) ![0] S1.size inb_S1_S1_0).toLoadRect (harg2.unread x1) (Shape.Idx.first (numel1_S1.symm ▸ Nat.one_pos))) = impOf x1 := by
    rw [View.readAt_eq_ld, harg2.read_unread]; rfl
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ off2_zero _ _ _).trans ?_
    show (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) = _
    rw [hM]
  isplitl [H8]
  · iexists _; isplitr
    swap; · iexact H8
    ipureintro
    refine (read_writes_whole _ _ off2_zero _ _ _).trans ?_
    show k1_pay5 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (arg9.view.readAt (Elt F) (Rect.unit (s := S128x1) ![0, 0] S128x1.size inb_S128x1_S128x1_0_0).toLoadRect (harg9.unread y8)) = _
    rw [hM, readAt_whole arg9 harg9 off2_zero]
  isplitl [H9]
  · iexists _; isplitr
    swap; · iexact H9
    ipureintro
    refine (read_writes_whole _ _ off2_zero _ _ _).trans ?_
    show k1_pay1 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) = _
    rw [hM]
  isplitl [H10]
  · iexists _; isplitr
    swap; · iexact H10
    ipureintro
    refine (read_writes_whole _ _ off2_zero _ _ _).trans ?_
    show k1_pay7 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (arg11.view.readAt (Elt F) (Rect.unit (s := S1x1) ![0, 0] S1x1.size inb_S1x1_S1x1_0_0).toLoadRect (harg11.unread y10)) = _
    rw [hM, readAt_whole arg11 harg11 off2_zero]
  isplitl [H11]
  · iexists _; isplitr
    swap; · iexact H11
    ipureintro
    refine (read_writes_whole _ _ off2_zero _ _ _).trans ?_
    show k1_pay10 i (arg2.view.readAt (Elt F) (Rect.unit (s := S1) ![0] S1.size inb_S1_S1_0).toLoadRect (harg2.unread x1) (Shape.Idx.first (numel1_S1.symm ▸ Nat.one_pos))) (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect) = _
    rw [hM, hI]
  isplitl [H12]
  · iexists _; isplitr
    swap; · iexact H12
    ipureintro
    refine (read_writes_whole _ _ off2_zero _ _ _).trans ?_
    show k1_pay6 (k1_pay11 i (arg2.view.readAt (Elt F) (Rect.unit (s := S1) ![0] S1.size inb_S1_S1_0).toLoadRect (harg2.unread x1) (Shape.Idx.first (numel1_S1.symm ▸ Nat.one_pos))) (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (k1_pay12 (F := F)) (arg13.view.readAt (Elt F) (Rect.unit (s := S128x1) ![0, 0] S128x1.size inb_S128x1_S128x1_0_0).toLoadRect (harg13.unread y12)) = _
    rw [hM, hI, readAt_whole arg13 harg13 off2_zero]
  iexists _, _; isplitr; swap; · iexact HS0
  ipureintro; rfl

end Cert.KernelIdeal.Pf

end
-- ==== Proof.KernelIdeal.PoolData.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KernelIdeal.Pool

public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling call's proof data

    The call runs over 60 grid points, one per tile of 512 vocabulary columns.  At a point the tile of the embedding
    (window 4), its scales (5) and the bias (6) are fetched; the last tile overhangs the arrays, so that what the
    staging buffers hold past the arrays' end is not known.  `rep1` is the tile of the result, the tail filled with
    zeros; `accL1`, `accF1`, `accS1` are the three running sums after each tile.  Everything is stated at a
    parameter `V`: what the buffers hold when the call begins. -/

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether or not it was fetched there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether or not it was fetched there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether or not it was fetched there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and its wholeness. -/
abbrev ms1_0 (t : Fin cfg1.N) : Memref sig .tc .smem S128 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x256x768 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x768 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x512 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S128x512 .i8 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x1 .f32 := win1_12.stage (cfg1.slots t 12)
abbrev hs1_12 (t : Fin cfg1.N) : (ms1_12 t).IsWhole := hstage1_12 ((cfg1.slots t 12).cast nbuf1_12)

/-- The scratch array the body gathers one document's row at a time in. -/
abbrev scM1_0 : Memref sig .tc .vmem S128x512 .f32 := Memref.whole cc1_scratch0

/-- The call's invariant with the scratch array as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## What one tile computes -/

/-- The embedding's tile, its tail past the array's end at zero. -/
def emb1 (c : Dev nD) (t : Fin cfg1.N) : Vec F S512x768 .fp8e4m3 :=
  win1_4.fill (grid1.coords t) (fun _ => Scalar.ofBits .fp8e4m3 0#8) (iblk1 V c 4 t)
/-- The embedding scales' tile, likewise. -/
def escl1 (c : Dev nD) (t : Fin cfg1.N) : Vec F S1x512 .f32 :=
  win1_5.fill (grid1.coords t) (fun _ => Scalar.ofBits .f32 0#32) (iblk1 V c 5 t)
/-- The bias's tile, likewise. -/
def bias1 (c : Dev nD) (t : Fin cfg1.N) : Vec F S1x512 .f32 :=
  win1_6.fill (grid1.coords t) (fun _ => Scalar.ofBits .f32 0#32) (iblk1 V c 6 t)

/-- The tile of the pooled representation. -/
def rep1 (c : Dev nD) (t : Fin cfg1.N) : FVec F S128x512 .f32 :=
  k1_pay9 (grid1.coords t) (mxv (iblk1 V c 0 t) (iblk1 V c 2 t) (iblk1 V c 3 t) (emb1 V c t) (escl1 V c t) (bias1 V c t))

/-- The impact codes of a tile of the representation at scale `s`. -/
def codesOf (s : Elt F .f32) (r : FVec F S128x512 .f32) : IVec S128x512 8 :=
  trunci 8 (fptosi 32 (minimumf (broadcast S128x512 (Scalar.ofBits .f32 0x437F0000#32))
    (maximumf (broadcast S128x512 (Scalar.ofBits .f32 0x00000000#32)) (roundeven (divf r (broadcast S128x512 s)))))) natLt_8_32

/-- By how much a tile of the representation exceeds the largest code's value at scale `s`. -/
def excessOf (s : Elt F .f32) (r : FVec F S128x512 .f32) : FVec F S128x512 .f32 :=
  subf r (broadcast S128x512 (Scalar.mulf (Scalar.ofBits .f32 0x437F0000#32) s))

theorem pay10_eq (i : grid1.Coords) (s : Elt F .f32) (m : Vec F S128x512 .f32) : k1_pay10 i s m = codesOf s (k1_pay9 i m) := rfl
theorem pay11_eq (i : grid1.Coords) (s : Elt F .f32) (m : Vec F S128x512 .f32) : k1_pay11 i s m = excessOf s (k1_pay9 i m) := rfl

/-- The running sum of the representation's absolute values, per document. -/
def accL1 (c : Dev nD) : (n : ℕ) → n < cfg1.N → Vec F S128x1 .f32
  | 0, h => k1_pay5 (rep1 V c ⟨0, h⟩) k1_pay2
  | n + 1, h => k1_pay5 (rep1 V c ⟨n + 1, h⟩) (accL1 c n (Nat.lt_of_succ_lt h))
/-- The running sum of the squared column means. -/
def accF1 (c : Dev nD) : (n : ℕ) → n < cfg1.N → Vec F S1x1 .f32
  | 0, h => k1_pay7 (rep1 V c ⟨0, h⟩) k1_pay4
  | n + 1, h => k1_pay7 (rep1 V c ⟨n + 1, h⟩) (accF1 c n (Nat.lt_of_succ_lt h))
/-- The running sum of the excess above the largest code, per document. -/
def accS1 (c : Dev nD) : (n : ℕ) → n < cfg1.N → Vec F S128x1 .f32
  | 0, h => k1_pay6 (excessOf (impOf (iblk1 V c 1 ⟨0, h⟩)) (rep1 V c ⟨0, h⟩)) k1_pay12 k1_pay3
  | n + 1, h => k1_pay6 (excessOf (impOf (iblk1 V c 1 ⟨n + 1, h⟩)) (rep1 V c ⟨n + 1, h⟩)) k1_pay12 (accS1 c n (Nat.lt_of_succ_lt h))

theorem accL1_first (c : Dev nD) (t : Fin cfg1.N) (h0 : t.val % 60 = 0) : accL1 V c t.val t.isLt = k1_pay5 (rep1 V c t) k1_pay2 := by
  have hN : t.val < 60 := lt_of_lt_of_eq t.isLt (show cfg1.N = 60 from N_1)
  obtain ⟨n, hn⟩ := t
  cases n with
  | zero => rfl
  | succ n => exfalso; dsimp only at h0 hN; omega
theorem accF1_first (c : Dev nD) (t : Fin cfg1.N) (h0 : t.val % 60 = 0) : accF1 V c t.val t.isLt = k1_pay7 (rep1 V c t) k1_pay4 := by
  have hN : t.val < 60 := lt_of_lt_of_eq t.isLt (show cfg1.N = 60 from N_1)
  obtain ⟨n, hn⟩ := t
  cases n with
  | zero => rfl
  | succ n => exfalso; dsimp only at h0 hN; omega
theorem accS1_first (c : Dev nD) (t : Fin cfg1.N) (h0 : t.val % 60 = 0) :
    accS1 V c t.val t.isLt = k1_pay6 (excessOf (impOf (iblk1 V c 1 t)) (rep1 V c t)) k1_pay12 k1_pay3 := by
  have hN : t.val < 60 := lt_of_lt_of_eq t.isLt (show cfg1.N = 60 from N_1)
  obtain ⟨n, hn⟩ := t
  cases n with
  | zero => rfl
  | succ n => exfalso; dsimp only at h0 hN; omega
theorem accL1_next (c : Dev nD) (t : Fin cfg1.N) (h0 : ¬t.val % 60 = 0) : accL1 V c t.val t.isLt
    = k1_pay5 (rep1 V c t) (accL1 V c (t.val - 1) (Nat.lt_of_le_of_lt (Nat.sub_le _ _) t.isLt)) := by
  obtain ⟨n, hn⟩ := t
  cases n with
  | zero => exact absurd (Nat.zero_mod _) h0
  | succ n => rfl
theorem accF1_next (c : Dev nD) (t : Fin cfg1.N) (h0 : ¬t.val % 60 = 0) : accF1 V c t.val t.isLt
    = k1_pay7 (rep1 V c t) (accF1 V c (t.val - 1) (Nat.lt_of_le_of_lt (Nat.sub_le _ _) t.isLt)) := by
  obtain ⟨n, hn⟩ := t
  cases n with
  | zero => exact absurd (Nat.zero_mod _) h0
  | succ n => rfl
theorem accS1_next (c : Dev nD) (t : Fin cfg1.N) (h0 : ¬t.val % 60 = 0) : accS1 V c t.val t.isLt
    = k1_pay6 (excessOf (impOf (iblk1 V c 1 t)) (rep1 V c t)) k1_pay12 (accS1 V c (t.val - 1) (Nat.lt_of_le_of_lt (Nat.sub_le _ _) t.isLt)) := by
  obtain ⟨n, hn⟩ := t
  cases n with
  | zero => exact absurd (Nat.zero_mod _) h0
  | succ n => rfl

/-! ## The proof data -/

/-- The call's proof data on core `c`: the arrays as the call finds them; what each staging buffer holds after the
    body at point `t`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => emb1 V c t
    | ⟨5, _⟩ => escl1 V c t
    | ⟨6, _⟩ => bias1 V c t
    | ⟨7, _⟩ => rep1 V c t
    | ⟨8, _⟩ => accL1 V c t.val t.isLt
    | ⟨9, _⟩ => k1_pay1 (rep1 V c t)
    | ⟨10, _⟩ => accF1 V c t.val t.isLt
    | ⟨11, _⟩ => codesOf (impOf (iblk1 V c 1 t)) (rep1 V c t)
    | ⟨12, _⟩ => accS1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = emb1 V c t := by dsimp only [dat1]
theorem after1_5 (c : Dev nD) (t : Fin cfg1.N) : (dat1 V c).after 5 t = escl1 V c t := by dsimp only [dat1]
theorem after1_6 (c : Dev nD) (t : Fin cfg1.N) : (dat1 V c).after 6 t = bias1 V c t := by dsimp only [dat1]
theorem after1_7 (c : Dev nD) (t : Fin cfg1.N) : (dat1 V c).after 7 t = rep1 V c t := by dsimp only [dat1]
theorem after1_8 (c : Dev nD) (t : Fin cfg1.N) : (dat1 V c).after 8 t = accL1 V c t.val t.isLt := by dsimp only [dat1]
theorem after1_9 (c : Dev nD) (t : Fin cfg1.N) : (dat1 V c).after 9 t = k1_pay1 (rep1 V c t) := by dsimp only [dat1]
theorem after1_10 (c : Dev nD) (t : Fin cfg1.N) : (dat1 V c).after 10 t = accF1 V c t.val t.isLt := by dsimp only [dat1]
theorem after1_11 (c : Dev nD) (t : Fin cfg1.N) : (dat1 V c).after 11 t = codesOf (impOf (iblk1 V c 1 t)) (rep1 V c t) := by dsimp only [dat1]
theorem after1_12 (c : Dev nD) (t : Fin cfg1.N) : (dat1 V c).after 12 t = accS1 V c t.val t.isLt := by dsimp only [dat1]

/-! What the body finds in each staging buffer. -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) :
    (dat1 V c).before 4 t d = win1_4.fill (grid1.coords t) d (iblk1 V c 4 t) := by
  unfold Dat.before; rw [if_pos (fetch1_4 t)]; rfl
theorem before1_5 (c : Dev nD) (t : Fin cfg1.N) (d) :
    (dat1 V c).before 5 t d = win1_5.fill (grid1.coords t) d (iblk1 V c 5 t) := by
  unfold Dat.before; rw [if_pos (fetch1_5 t)]; rfl
theorem before1_6 (c : Dev nD) (t : Fin cfg1.N) (d) :
    (dat1 V c).before 6 t d = win1_6.fill (grid1.coords t) d (iblk1 V c 6 t) := by
  unfold Dat.before; rw [if_pos (fetch1_6 t)]; rfl
theorem before1_8_B (c : Dev nD) (t : Fin cfg1.N) (h0 : ¬t.val % 60 = 0) (d) :
    (dat1 V c).before 8 t d = accL1 V c (t.val - 1) (Nat.lt_of_le_of_lt (Nat.sub_le _ _) t.isLt) := by
  have hN : t.val < 60 := lt_of_lt_of_eq t.isLt (show cfg1.N = 60 from N_1)
  rw [Dat.before_out_kept _ 8 rfl t (by omega) (Bool.eq_false_iff.mpr fun h => by have := (flush1_8 _).mp h; dsimp only at this; omega)
    (fun _ => rfl) (fun _ _ => rfl)]
  dsimp only [dat1]
theorem before1_10_B (c : Dev nD) (t : Fin cfg1.N) (h0 : ¬t.val % 60 = 0) (d) :
    (dat1 V c).before 10 t d = accF1 V c (t.val - 1) (Nat.lt_of_le_of_lt (Nat.sub_le _ _) t.isLt) := by
  have hN : t.val < 60 := lt_of_lt_of_eq t.isLt (show cfg1.N = 60 from N_1)
  rw [Dat.before_out_kept _ 10 rfl t (by omega) (Bool.eq_false_iff.mpr fun h => by have := (flush1_10 _).mp h; dsimp only at this; omega)
    (fun _ => rfl) (fun _ _ => rfl)]
  dsimp only [dat1]
theorem before1_12_B (c : Dev nD) (t : Fin cfg1.N) (h0 : ¬t.val % 60 = 0) (d) :
    (dat1 V c).before 12 t d = accS1 V c (t.val - 1) (Nat.lt_of_le_of_lt (Nat.sub_le _ _) t.isLt) := by
  have hN : t.val < 60 := lt_of_lt_of_eq t.isLt (show cfg1.N = 60 from N_1)
  rw [Dat.before_out_kept _ 12 rfl t (by omega) (Bool.eq_false_iff.mpr fun h => by have := (flush1_12 _).mp h; dsimp only at this; omega)
    (fun _ => rfl) (fun _ _ => rfl)]
  dsimp only [dat1]

/-- The body table's row at point `t`'s slots is the body on the point's staging buffers. -/
theorem defs₀_row1 (t : Fin cfg1.N) :
    defs₀ (F := F) .tc cfg1.body (cfg1.bodyArgs t (cfg1.slots t)) = bodyAt1 t := by
  unfold defs₀; rw [Defs.onTc_tc]

end Cert.KernelIdeal.Pf

end
-- ==== Proof.KernelIdeal.Boundaries.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KernelIdeal.Transform
public import proofs.«01_k».proof.Proof.KernelIdeal.PoolData

public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-! # The buffers between the parts of the program

    The program is: host operations, the transform call, host operations, the pooling call, host operations.
    `W0` … `W5` are what the buffers hold at the boundaries, each got from the one before; an argument array holds
    its launch contents at every boundary. -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v12, main_v13, main_v14, main_v15, main_v16]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Pf

end
-- ==== Proof.Spec.lean ====
/- The arithmetic of one token and of one vocabulary entry, over the extended reals: what a row of hidden values is,
   how it is normalised and quantised, and how one vocabulary entry is scored against a document. No program here. -/
module

public import Idealize.ShloMosaic.Lib.Pointwise
public import Idealize.ShloMosaic.Lib.ValueIdx
public import Idealize.ShloMosaic.Lib.ValueIdxCore

@[expose] public section

noncomputable section

namespace Cert.Spec

open Idealize.ShloMosaic
open scoped BigOperators

/-- A row of 768 values. -/
abbrev Row := Fin 768 → EReal

/-- The constants of the formulas, as the two programs write them: 1/2, the rounding of 1/√2, 1, 768, 10⁻¹², 448, −448, −∞, 0, 255, 128. -/
abbrev cHalf : EReal := Ideal.ofBits .f32 0x3F000000#32
abbrev cRt : EReal := Ideal.ofBits .f32 0x3F3504F3#32
abbrev cOne : EReal := Ideal.ofBits .f32 0x3F800000#32
abbrev cD : EReal := Ideal.ofBits .f32 0x44400000#32
abbrev cEps : EReal := Ideal.ofBits .f32 0x2B8CBCCC#32
abbrev cTop : EReal := Ideal.ofBits .f32 0x43E00000#32
abbrev cBot : EReal := Ideal.ofBits .f32 0xC3E00000#32
abbrev cNegInf : EReal := Ideal.ofBits .f32 0xFF800000#32
abbrev cZero : EReal := Ideal.ofBits .f32 0x00000000#32
abbrev c255 : EReal := Ideal.ofBits .f32 0x437F0000#32
abbrev c128 : EReal := Ideal.ofBits .f32 0x43000000#32

/-- The hidden row of a token: the product with the weights, scaled, plus the bias. -/
def hid (x : Row) (xs : EReal) (w : Fin 768 → Row) (ws b : Row) : Row := fun j => (∑ k, x k * w k j) * xs * ws j + b j
/-- The activation `h/2 · (1 + erf(h/√2))`. -/
def gelu (h : EReal) : EReal := cHalf * h * (cOne + FloatOps.erf (F := Ideal) (φ := .f32) (h * cRt))
/-- A row less its mean. -/
def centred (g : Row) : Row := fun j => g j - Ideal.div (∑ k, g k) cD
/-- The standard deviation of a centred row. -/
def dev (c : Row) : EReal := Ideal.sqrt (Ideal.div (∑ k, c k * c k) cD + cEps)
/-- A centred row divided by a deviation, with gain and offset. -/
def affine (c : Row) (σ : EReal) (gam beta : Row) : Row := fun j => Ideal.div (c j) σ * gam j + beta j
/-- The largest magnitude of a row. -/
def amax (y : Row) : EReal := Finset.univ.fold max cNegInf fun k => FloatOps.absf (F := Ideal) (φ := .f32) (y k)
/-- The scale of a row: its largest magnitude over 448, or 1 for a row of zeros. -/
def scale (y : Row) : EReal := Scalar.select (FloatOps.cmpf (F := Ideal) (φ := .f32) .oeq (amax y) cZero) cOne (Ideal.div (amax y) cTop)
/-- The codes of a row: the row over its scale, clipped to ±448. -/
def code (y : Row) : Row := fun j => min cTop (max cBot (Ideal.div (y j) (scale y)))
/-- The normalised row of a token. -/
def token (x : Row) (xs : EReal) (w : Fin 768 → Row) (ws b gam beta : Row) : Row :=
  affine (centred fun j => gelu (hid x xs w ws b j)) (dev (centred fun j => gelu (hid x xs w ws b j))) gam beta

/-- The score of one token for one vocabulary entry. -/
def score (z : Row) (sc : EReal) (e : Row) (es bv : EReal) : EReal := (∑ k, z k * e k) * sc * es + bv
/-- The best score of a document's tokens before its length. -/
def best (len : BitVec 32) (z : Fin 256 → Row) (sc : Fin 256 → EReal) (e : Row) (es bv : EReal) : EReal :=
  Finset.univ.fold max cNegInf fun s : Fin 256 =>
    Scalar.select (IntOp.cmpi .slt (BitVec.ofNat 32 s.val) len) (score (z s) (sc s) e es bv) cNegInf
/-- A document's weight for one vocabulary entry, from its best score. -/
def weight (m : EReal) : EReal := Ideal.log1p (max m cZero)
/-- The 8-bit code of a weight, for an impact scale. -/
def impact (imp r : EReal) : BitVec 8 :=
  BitVec.setWidth 8 (FloatOps.fptosi (F := Ideal) (φ := .f32) 32 (min c255 (max cZero (FloatOps.roundeven (F := Ideal) (φ := .f32) (Ideal.div r imp)))))
/-- What of a weight lies above the largest code. -/
def excess (imp r : EReal) : EReal := max (r - c255 * imp) cZero

end Cert.Spec

end
-- ==== Proof.Reshapes.lean ====
/- Reshapes of whole arrays read entry by entry. -/
module

public import Idealize.ShloMosaic.Lib.Pipeline.Value
public import proofs.«01_k».proof.Proof.Generic

@[expose] public section

set_option maxRecDepth 16384

noncomputable section

namespace Cert.Generic

open Idealize.ShloMosaic

/-- A column as a vector. -/
theorem unCol {m : ℕ} {α : Type} (x : (⟨2, ![m, 1]⟩ : Shape).Idx → α) (h : (⟨2, ![m, 1]⟩ : Shape).ShapeCasts ⟨1, ![m]⟩) (r : Fin m) :
    shapeCast ⟨1, ![m]⟩ x h (ix1 r) = x (ix2 r 0) := by
  refine Idealize.ShloMosaic.shapeCast_apply x h _ _ ?_
  rw [Shape.rowMajor_val_one, Shape.rowMajor_val_two]
  change r.val * 1 + 0 = r.val
  omega

/-- A row as a vector. -/
theorem unRow {n : ℕ} {α : Type} (x : (⟨2, ![1, n]⟩ : Shape).Idx → α) (h : (⟨2, ![1, n]⟩ : Shape).ShapeCasts ⟨1, ![n]⟩) (r : Fin n) :
    shapeCast ⟨1, ![n]⟩ x h (ix1 r) = x (ix2 0 r) := by
  refine Idealize.ShloMosaic.shapeCast_apply x h _ _ ?_
  rw [Shape.rowMajor_val_one, Shape.rowMajor_val_two]
  change 0 * n + r.val = r.val
  omega

/-- An array with a last axis of one entry, that axis dropped. -/
theorem unLast {a b : ℕ} {α : Type} (x : (⟨3, ![a, b, 1]⟩ : Shape).Idx → α) (h : (⟨3, ![a, b, 1]⟩ : Shape).ShapeCasts ⟨2, ![a, b]⟩) (i : Fin a) (j : Fin b) :
    shapeCast ⟨2, ![a, b]⟩ x h (ix2 i j) = x (ix3 i j 0) := by
  refine Idealize.ShloMosaic.shapeCast_apply x h _ _ ?_
  rw [Shape.rowMajor_val_three, Shape.rowMajor_val_two]
  change (i.val * b + j.val) * 1 + 0 = i.val * b + j.val
  omega

/-- A vector as a column with a further axis. -/
theorem toDoc {a : ℕ} {α : Type} (x : (⟨1, ![a]⟩ : Shape).Idx → α) (h : (⟨1, ![a]⟩ : Shape).ShapeCasts ⟨3, ![a, 1, 1]⟩) (i : Fin a) :
    shapeCast ⟨3, ![a, 1, 1]⟩ x h (ix3 i 0 0) = x (ix1 i) := by
  refine Idealize.ShloMosaic.shapeCast_apply x h _ _ ?_
  rw [Shape.rowMajor_val_three, Shape.rowMajor_val_one]
  change i.val = (i.val * 1 + 0) * 1 + 0
  omega

/-- One entry, as a number without axes. -/
theorem unOne {α : Type} (x : (⟨2, ![1, 1]⟩ : Shape).Idx → α) (h : (⟨2, ![1, 1]⟩ : Shape).ShapeCasts ⟨0, ![]⟩) (i : (⟨0, ![]⟩ : Shape).Idx) :
    shapeCast ⟨0, ![]⟩ x h i = x (ix2 0 0) := by
  unfold shapeCast
  refine congrArg x (funext fun a => ?_)
  match a with
  | ⟨0, _⟩ => exact Subsingleton.elim (α := Fin 1) _ _
  | ⟨1, _⟩ => exact Subsingleton.elim (α := Fin 1) _ _

/-- A number without axes, as one entry. -/
theorem toOne {α : Type} (x : (⟨0, ![]⟩ : Shape).Idx → α) (h : (⟨0, ![]⟩ : Shape).ShapeCasts ⟨1, ![1]⟩) (i : (⟨0, ![]⟩ : Shape).Idx) :
    shapeCast ⟨1, ![1]⟩ x h (ix1 0) = x i := by
  unfold shapeCast
  exact congrArg x (funext fun a => a.elim0)

/-- A vector spread to a row. -/
theorem rowOf {n : ℕ} {α : Type} (x : (⟨1, ![n]⟩ : Shape).Idx → α) (h : (⟨1, ![n]⟩ : Shape).BroadcastsInDim ⟨2, ![1, n]⟩ ![1]) (hn : n ≠ 1) (c : Fin n) :
    broadcastInDim ⟨2, ![1, n]⟩ ![1] h x (ix2 0 c) = x (ix1 c) := by
  refine broadcastInDim_apply _ h x _ _ fun a => ?_
  match a with
  | ⟨0, _⟩ => exact (if_neg hn).symm

/-- An array given a last axis of one entry. -/
theorem lastOf {a b : ℕ} {α : Type} (x : (⟨2, ![a, b]⟩ : Shape).Idx → α) (h : (⟨2, ![a, b]⟩ : Shape).BroadcastsInDim ⟨3, ![a, b, 1]⟩ ![0, 1]) (ha : a ≠ 1) (hb : b ≠ 1)
    (i : Fin a) (j : Fin b) : broadcastInDim ⟨3, ![a, b, 1]⟩ ![0, 1] h x (ix3 i j 0) = x (ix2 i j) := by
  refine broadcastInDim_apply _ h x _ _ fun e => ?_
  match e with
  | ⟨0, _⟩ => exact (if_neg ha).symm
  | ⟨1, _⟩ => exact (if_neg hb).symm

/-- The first rows of two arrays put below each other. -/
theorem above {p q n k : ℕ} {α : Type} (x : (⟨2, ![p, k]⟩ : Shape).Idx → α) (y : (⟨2, ![q, k]⟩ : Shape).Idx → α)
    (h : Shape.Concatenates [(⟨2, ![p, k]⟩ : Shape), ⟨2, ![q, k]⟩] ⟨2, ![n, k]⟩ 0) (i : Fin p) (hi : i.val < n) (j : Fin k) :
    concatenate (⟨2, ![n, k]⟩ : Shape) 0 [⟨⟨2, ![p, k]⟩, x⟩, ⟨⟨2, ![q, k]⟩, y⟩] h (ix2 ⟨i.val, hi⟩ j) = x (ix2 i j) := by
  refine concatenate_pair_apply_left (t := ⟨2, ![n, k]⟩) (s₁ := ⟨2, ![p, k]⟩) (s₂ := ⟨2, ![q, k]⟩) 0 x y h _ rfl _ fun b => ?_
  match b with
  | ⟨0, _⟩ => rfl
  | ⟨1, _⟩ => rfl

end Cert.Generic

end
-- ==== Proof.Answer.lean ====
/- The eight results as functions of the twelve arguments. -/
module

public import proofs.«01_k».proof.Proof.Spec

@[expose] public section

set_option maxRecDepth 16384

noncomputable section

namespace Cert.Spec

open Idealize.ShloMosaic
open scoped BigOperators

/-- The twelve arguments, read entry by entry. -/
structure Args where
  /-- the tokens' codes -/
  x : Fin 128 → Fin 256 → Row
  /-- the tokens' scales -/
  xs : Fin 128 → Fin 256 → EReal
  /-- the documents' lengths -/
  lens : Fin 128 → BitVec 32
  /-- the transform's weight codes -/
  w : Fin 768 → Row
  /-- the transform's weight scales -/
  ws : Row
  /-- the transform's bias -/
  b : Row
  /-- the normalisation's gain -/
  gam : Row
  /-- the normalisation's offset -/
  beta : Row
  /-- the vocabulary's embedding codes -/
  emb : Fin 30522 → Row
  /-- the embeddings' scales -/
  es : Fin 30522 → EReal
  /-- the vocabulary's bias -/
  bv : Fin 30522 → EReal
  /-- the impact scale -/
  imp : EReal

namespace Args

variable (A : Args)

/-- Token `s` of document `d`, normalised. -/
def tok (d : Fin 128) (s : Fin 256) : Row := token (A.x d s) (A.xs d s) A.w A.ws A.b A.gam A.beta
/-- The weight of vocabulary entry `v` in document `d`. -/
def wt (d : Fin 128) (v : Fin 30522) : EReal :=
  weight (best (A.lens d) (fun s => code (A.tok d s)) (fun s => scale (A.tok d s)) (A.emb v) (A.es v) (A.bv v))
/-- The mean weight of vocabulary entry `v`. -/
def mean (v : Fin 30522) : EReal := Ideal.div (∑ d : Fin 128, A.wt d v) c128
/-- The sum of document `d`'s weights. -/
def l1 (d : Fin 128) : EReal := ∑ v : Fin 30522, A.wt d v
/-- The sum of the squared means. -/
def flops : EReal := ∑ v : Fin 30522, A.mean v * A.mean v
/-- What of document `d`'s weights lies above the largest code. -/
def sat (d : Fin 128) : EReal := ∑ v : Fin 30522, excess A.imp (A.wt d v)

end Args

/-- A weight of 0 is not above the largest code when the impact scale is not negative. -/
theorem excess_zero (imp : EReal) (h : 0 ≤ imp) : excess imp 0 = 0 := by
  have h255 : c255 = ((255 : ℝ) : EReal) := by
    simp [c255, Ideal.ofBits, Ideal.ieee, -EReal.coe_mul]; norm_num
  have h0 : cZero = 0 := by simp [cZero]
  unfold excess
  rw [h0, h255, zero_sub]
  refine max_eq_right ?_
  rw [EReal.neg_le, neg_zero]
  exact mul_nonneg (by norm_num) h

end Cert.Spec

end
-- ==== Proof.KernelIdeal.Inputs.lean ====
/- What the host's operations put into the buffers the two calls read, from the arguments. -/
module

public import proofs.«01_k».proof.Proof.KernelIdeal.Boundaries
public import proofs.«01_k».proof.Proof.Reshapes
public import proofs.«01_k».proof.Proof.Answer
public import Idealize.ShloMosaic.Lib.Claim

@[expose] public section

set_option maxRecDepth 16384

noncomputable section

namespace Cert.KernelIdeal.Pf

open Idealize.ShloMosaic Idealize.ShloMosaic.TpuEff Idealize.SL.Sem Cert.KernelIdeal Cert.KernelIdeal.Gen Cert.Spec Cert.Generic
open Facts
open scoped BigOperators

open Idealize.ShloMosaic.TcCoe
open Idealize.ShloMosaic.Pipeline (Dat Cfg Window)

/-- The arguments of a memory, read entry by entry. -/
def args (m : (ℓ : Loc nD τ sig) → Buf (Elt Ideal) ℓ) (c : Dev nD) : Args where
  x := fun d s k => m ((c : Thread nD τ).loc main_arg0) (ix3 d s k)
  xs := fun d s => m ((c : Thread nD τ).loc main_arg1) (ix2 d s)
  lens := fun d => m ((c : Thread nD τ).loc main_arg2) (ix1 d)
  w := fun k j => m ((c : Thread nD τ).loc main_arg3) (ix2 k j)
  ws := fun j => m ((c : Thread nD τ).loc main_arg4) (ix1 j)
  b := fun j => m ((c : Thread nD τ).loc main_arg5) (ix1 j)
  gam := fun j => m ((c : Thread nD τ).loc main_arg6) (ix1 j)
  beta := fun j => m ((c : Thread nD τ).loc main_arg7) (ix1 j)
  emb := fun v k => m ((c : Thread nD τ).loc main_arg8) (ix2 v k)
  es := fun v => m ((c : Thread nD τ).loc main_arg9) (ix1 v)
  bv := fun v => m ((c : Thread nD τ).loc main_arg10) (ix1 v)
  imp := m ((c : Thread nD τ).loc main_arg11) (fun a => a.elim0)

section
variable (U : Valuation τ sig (Elt Ideal))

/-! Each host operation's result, for any contents before it. -/
theorem host_v3 : StableHlo.after hostOps0 U (Proc.devRef .tc main_v3) = shapeCast S1x768 (U (Proc.devRef .tc main_arg4)) shapeCasts_S768_S1x768 := by
  after_results
  rfl
theorem host_v4 : StableHlo.after hostOps0 U (Proc.devRef .tc main_v4) = shapeCast S1x768 (U (Proc.devRef .tc main_arg5)) shapeCasts_S768_S1x768 := by
  after_results
  rfl
theorem host_v5 : StableHlo.after hostOps0 U (Proc.devRef .tc main_v5) = shapeCast S1x768 (U (Proc.devRef .tc main_arg6)) shapeCasts_S768_S1x768 := by
  after_results
  rfl
theorem host_v6 : StableHlo.after hostOps0 U (Proc.devRef .tc main_v6) = shapeCast S1x768 (U (Proc.devRef .tc main_arg7)) shapeCasts_S768_S1x768 := by
  after_results
  rfl
theorem host_v8 : StableHlo.after hostOps1 U (Proc.devRef .tc main_v8) = shapeCast S1 (U (Proc.devRef .tc main_arg11)) shapeCasts_S_S1 := by
  after_results
  rfl
theorem host_v9 : StableHlo.after hostOps1 U (Proc.devRef .tc main_v9) = shapeCast S1x30522 (U (Proc.devRef .tc main_arg9)) shapeCasts_S30522_S1x30522 := by
  after_results
  rfl
theorem host_v10 : StableHlo.after hostOps1 U (Proc.devRef .tc main_v10) = shapeCast S1x30522 (U (Proc.devRef .tc main_arg10)) shapeCasts_S30522_S1x30522 := by
  after_results
  rfl
theorem host_v12 : StableHlo.after hostOps2 U (Proc.devRef .tc main_v12) = shapeCast S128 (U (Proc.devRef .tc main_v11_1)) shapeCasts_S128x1_S128 := by
  after_results
  rfl
theorem host_v13 : StableHlo.after hostOps2 U (Proc.devRef .tc main_v13) = shapeCast S30522 (U (Proc.devRef .tc main_v11_2)) shapeCasts_S1x30522_S30522 := by
  after_results
  rfl
theorem host_v14 : StableHlo.after hostOps2 U (Proc.devRef .tc main_v14) = shapeCast S_ (U (Proc.devRef .tc main_v11_3)) shapeCasts_S1x1_S_ := by
  after_results
  rfl
theorem host_v15 : StableHlo.after hostOps2 U (Proc.devRef .tc main_v15) = shapeCast S128x256 (U (Proc.devRef .tc main_v7_1)) shapeCasts_S128x256x1_S128x256 := by
  after_results
  rfl
theorem host_v16 : StableHlo.after hostOps2 U (Proc.devRef .tc main_v16) = shapeCast S128 (U (Proc.devRef .tc main_v11_5)) shapeCasts_S128x1_S128 := by
  after_results
  rfl
theorem host_v2 : StableHlo.after hostOps0 U (Proc.devRef .tc main_v2) = broadcastInDim S128x256x1 ![0, 1] bcast_S128x256_S128x256x1_0_1 (U (Proc.devRef .tc main_arg1)) := by
  after_results
theorem host_v1 : StableHlo.after hostOps0 U (Proc.devRef .tc main_v1) = concatenate S30524x768 0 [⟨S30522x768, U (Proc.devRef .tc main_arg8)⟩, ⟨S2x768, extractStridedSlice S2x768 ![30520, 0] (U (Proc.devRef .tc main_arg8)) slices_S30522x768_S2x768_30520_0⟩] concatenates_S30522x768_S2x768_S30524x768_d0 := by
  after_results

end

variable (m : (ℓ : Loc nD τ sig) → Buf (Elt Ideal) ℓ) (ρ : Dev nD → PrngReg)

/-! What the transform reads. -/
theorem in_arg0 (c : Dev nD) : V1 m ρ c main_arg0 = m ((c : Thread nD τ).loc main_arg0) := W1_args m ρ c main_arg0 (by decide +kernel)
theorem in_arg3 (c : Dev nD) : V1 m ρ c main_arg3 = m ((c : Thread nD τ).loc main_arg3) := W1_args m ρ c main_arg3 (by decide +kernel)
theorem in_v2 (c : Dev nD) (d : Fin 128) (s : Fin 256) : V1 m ρ c main_v2 (ix3 d s 0) = (args m c).xs d s := by
  refine (congrFun (host_v2 (W0 m ρ c)) _).trans ?_
  exact lastOf _ _ (by norm_num) (by norm_num) d s
theorem in_v3 (c : Dev nD) (j : Fin 768) : V1 m ρ c main_v3 (ix2 0 j) = (args m c).ws j := by
  refine (congrFun (host_v3 (W0 m ρ c)) _).trans ?_
  exact toRow _ _ j
theorem in_v4 (c : Dev nD) (j : Fin 768) : V1 m ρ c main_v4 (ix2 0 j) = (args m c).b j := by
  refine (congrFun (host_v4 (W0 m ρ c)) _).trans ?_
  exact toRow _ _ j
theorem in_v5 (c : Dev nD) (j : Fin 768) : V1 m ρ c main_v5 (ix2 0 j) = (args m c).gam j := by
  refine (congrFun (host_v5 (W0 m ρ c)) _).trans ?_
  exact toRow _ _ j
theorem in_v6 (c : Dev nD) (j : Fin 768) : V1 m ρ c main_v6 (ix2 0 j) = (args m c).beta j := by
  refine (congrFun (host_v6 (W0 m ρ c)) _).trans ?_
  exact toRow _ _ j

/-! What the pool reads, besides the transform's results. -/
theorem in_arg2 (c : Dev nD) : V3 m ρ c main_arg2 = m ((c : Thread nD τ).loc main_arg2) := W3_args m ρ c main_arg2 (by decide +kernel)
theorem in_v8 (c : Dev nD) : V3 m ρ c main_v8 (ix1 0) = (args m c).imp := by
  refine (congrFun (host_v8 (W2 m ρ c)) _).trans ?_
  rw [W2_args m ρ c main_arg11 (by decide +kernel)]
  exact toOne _ _ _
theorem in_v9 (c : Dev nD) (v : Fin 30522) : V3 m ρ c main_v9 (ix2 0 v) = (args m c).es v := by
  refine (congrFun (host_v9 (W2 m ρ c)) _).trans ?_
  rw [W2_args m ρ c main_arg9 (by decide +kernel)]
  exact toRow _ _ v
theorem in_v10 (c : Dev nD) (v : Fin 30522) : V3 m ρ c main_v10 (ix2 0 v) = (args m c).bv v := by
  refine (congrFun (host_v10 (W2 m ρ c)) _).trans ?_
  rw [W2_args m ρ c main_arg10 (by decide +kernel)]
  exact toRow _ _ v
theorem in_v1 (c : Dev nD) (v : Fin 30522) (k : Fin 768) : V3 m ρ c main_v1 (ix2 ⟨v.val, by omega⟩ k) = (args m c).emb v k := by
  have e : V3 m ρ c main_v1 = StableHlo.after hostOps0 (W0 m ρ c) (Proc.devRef .tc main_v1) :=
    (W3_of m ρ c main_v1 (by decide +kernel)).trans (W2_of m ρ c main_v1 (by decide +kernel))
  refine (congrFun (e.trans (host_v1 (W0 m ρ c))) _).trans ?_
  exact above _ _ _ v _ k

end Cert.KernelIdeal.Pf

end
-- ==== Proof.ReferenceIdeal.Inputs.lean ====
/- What the reference's input blocks hold, from the arguments. -/
module

public import proofs.«01_k».proof.Proof.Gen.ReferenceIdeal.Frame
public import Idealize.ShloMosaic.Lib.Pipeline.ValueKit
public import proofs.«01_k».proof.Proof.Reshapes
public import proofs.«01_k».proof.Proof.Answer
public import Idealize.ShloMosaic.Lib.Claim

@[expose] public section

set_option maxRecDepth 16384

noncomputable section

namespace Cert.ReferenceIdeal.Pf

open Idealize.ShloMosaic Idealize.ShloMosaic.TpuEff Idealize.SL.Sem Cert.ReferenceIdeal Cert.ReferenceIdeal.Gen Cert.Spec Cert.Generic
open Facts
open scoped BigOperators

open Idealize.ShloMosaic.TcCoe
open Idealize.ShloMosaic.Pipeline (Dat Cfg Window)

/-- The arguments of a memory, read entry by entry. -/
def args (m : (ℓ : Loc nD τ sig) → Buf (Elt Ideal) ℓ) (c : Dev nD) : Args where
  x := fun d s k => m ((c : Thread nD τ).loc main_arg0) (ix3 d s k)
  xs := fun d s => m ((c : Thread nD τ).loc main_arg1) (ix2 d s)
  lens := fun d => m ((c : Thread nD τ).loc main_arg2) (ix1 d)
  w := fun k j => m ((c : Thread nD τ).loc main_arg3) (ix2 k j)
  ws := fun j => m ((c : Thread nD τ).loc main_arg4) (ix1 j)
  b := fun j => m ((c : Thread nD τ).loc main_arg5) (ix1 j)
  gam := fun j => m ((c : Thread nD τ).loc main_arg6) (ix1 j)
  beta := fun j => m ((c : Thread nD τ).loc main_arg7) (ix1 j)
  emb := fun v k => m ((c : Thread nD τ).loc main_arg8) (ix2 v k)
  es := fun v => m ((c : Thread nD τ).loc main_arg9) (ix1 v)
  bv := fun v => m ((c : Thread nD τ).loc main_arg10) (ix1 v)
  imp := m ((c : Thread nD τ).loc main_arg11) (fun a => a.elim0)

section
variable (U : Valuation τ sig (Elt Ideal))

/-! Each host operation's result, for any contents before it. -/
theorem host_v0 : StableHlo.after hostOps0 U (Proc.devRef .tc main_v0) = broadcastInDim S128x256x1 ![0, 1] bcast_S128x256_S128x256x1_0_1 (U (Proc.devRef .tc main_arg1)) := by
  after_results
theorem host_v2 : StableHlo.after hostOps0 U (Proc.devRef .tc main_v2) = broadcastInDim S1x768 ![1] bcast_S768_S1x768_1 (U (Proc.devRef .tc main_arg4)) := by
  after_results
theorem host_v3 : StableHlo.after hostOps0 U (Proc.devRef .tc main_v3) = broadcastInDim S1x768 ![1] bcast_S768_S1x768_1 (U (Proc.devRef .tc main_arg5)) := by
  after_results
theorem host_v4 : StableHlo.after hostOps0 U (Proc.devRef .tc main_v4) = broadcastInDim S1x768 ![1] bcast_S768_S1x768_1 (U (Proc.devRef .tc main_arg6)) := by
  after_results
theorem host_v5 : StableHlo.after hostOps0 U (Proc.devRef .tc main_v5) = broadcastInDim S1x768 ![1] bcast_S768_S1x768_1 (U (Proc.devRef .tc main_arg7)) := by
  after_results
theorem host_v6 : StableHlo.after hostOps0 U (Proc.devRef .tc main_v6) = broadcastInDim S1x30522 ![1] bcast_S30522_S1x30522_1 (U (Proc.devRef .tc main_arg9)) := by
  after_results
theorem host_v7 : StableHlo.after hostOps0 U (Proc.devRef .tc main_v7) = broadcastInDim S1x30522 ![1] bcast_S30522_S1x30522_1 (U (Proc.devRef .tc main_arg10)) := by
  after_results
theorem host_v1 : StableHlo.after hostOps0 U (Proc.devRef .tc main_v1) = shapeCast S128x1x1 (U (Proc.devRef .tc main_arg2)) shapeCasts_S128_S128x1x1 := by
  after_results
  rfl
theorem host_v8 : StableHlo.after hostOps0 U (Proc.devRef .tc main_v8) = shapeCast S1 (U (Proc.devRef .tc main_arg11)) shapeCasts_S_S1 := by
  after_results
  rfl
theorem host_v10 : StableHlo.after hostOps1 U (Proc.devRef .tc main_v10) = shapeCast S128 (U (Proc.devRef .tc main_v9_1)) shapeCasts_S128x1_S128 := by
  after_results
  rfl
theorem host_v11 : StableHlo.after hostOps1 U (Proc.devRef .tc main_v11) = shapeCast S30522 (U (Proc.devRef .tc main_v9_2)) shapeCasts_S1x30522_S30522 := by
  after_results
  rfl
theorem host_v12 : StableHlo.after hostOps1 U (Proc.devRef .tc main_v12) = shapeCast S_ (U (Proc.devRef .tc main_v9_3)) shapeCasts_S1x1_S_ := by
  after_results
  rfl
theorem host_v13 : StableHlo.after hostOps1 U (Proc.devRef .tc main_v13) = shapeCast S128x256 (U (Proc.devRef .tc main_v9_5)) shapeCasts_S128x256x1_S128x256 := by
  after_results
  rfl
theorem host_v14 : StableHlo.after hostOps1 U (Proc.devRef .tc main_v14) = shapeCast S128 (U (Proc.devRef .tc main_v9_7)) shapeCasts_S128x1_S128 := by
  after_results
  rfl
theorem host_arg0 : StableHlo.after hostOps0 U (Proc.devRef .tc main_arg0) = U (Proc.devRef .tc main_arg0) := by
  after_results
theorem host_arg3 : StableHlo.after hostOps0 U (Proc.devRef .tc main_arg3) = U (Proc.devRef .tc main_arg3) := by
  after_results
theorem host_arg8 : StableHlo.after hostOps0 U (Proc.devRef .tc main_arg8) = U (Proc.devRef .tc main_arg8) := by
  after_results

end

variable (m : (ℓ : Loc nD τ sig) → Buf (Elt Ideal) ℓ)

/-! Each input block is its whole array. -/
theorem blk0 (c : Dev nD) (t : Fin cfg0.N) (d : Fin 128) (s : Fin 256) (k : Fin 768) : iblk m c 0 t (ix3 d s k) = V m c main_arg0 (ix3 d s k) := by
  refine congrArg (V m c main_arg0) (funext fun a => Fin.ext ?_)
  exact Window.rect_emb_val_of_index_zero win0_0 t a (by match a with | ⟨0, _⟩ => rfl | ⟨1, _⟩ => rfl | ⟨2, _⟩ => rfl) _
theorem blk1 (c : Dev nD) (t : Fin cfg0.N) (d : Fin 128) (s : Fin 256) : iblk m c 1 t (ix3 d s 0) = V m c main_v0 (ix3 d s 0) := by
  refine congrArg (V m c main_v0) (funext fun a => Fin.ext ?_)
  exact Window.rect_emb_val_of_index_zero win0_1 t a (by match a with | ⟨0, _⟩ => rfl | ⟨1, _⟩ => rfl | ⟨2, _⟩ => rfl) _
theorem blk2 (c : Dev nD) (t : Fin cfg0.N) (d : Fin 128) : iblk m c 2 t (ix3 d 0 0) = V m c main_v1 (ix3 d 0 0) := by
  refine congrArg (V m c main_v1) (funext fun a => Fin.ext ?_)
  exact Window.rect_emb_val_of_index_zero win0_2 t a (by match a with | ⟨0, _⟩ => rfl | ⟨1, _⟩ => rfl | ⟨2, _⟩ => rfl) _
theorem blk3 (c : Dev nD) (t : Fin cfg0.N) (k j : Fin 768) : iblk m c 3 t (ix2 k j) = V m c main_arg3 (ix2 k j) := by
  refine congrArg (V m c main_arg3) (funext fun a => Fin.ext ?_)
  exact Window.rect_emb_val_of_index_zero win0_3 t a (by match a with | ⟨0, _⟩ => rfl | ⟨1, _⟩ => rfl) _
theorem blk4 (c : Dev nD) (t : Fin cfg0.N) (j : Fin 768) : iblk m c 4 t (ix2 0 j) = V m c main_v2 (ix2 0 j) := by
  refine congrArg (V m c main_v2) (funext fun a => Fin.ext ?_)
  exact Window.rect_emb_val_of_index_zero win0_4 t a (by match a with | ⟨0, _⟩ => rfl | ⟨1, _⟩ => rfl) _
theorem blk5 (c : Dev nD) (t : Fin cfg0.N) (j : Fin 768) : iblk m c 5 t (ix2 0 j) = V m c main_v3 (ix2 0 j) := by
  refine congrArg (V m c main_v3) (funext fun a => Fin.ext ?_)
  exact Window.rect_emb_val_of_index_zero win0_5 t a (by match a with | ⟨0, _⟩ => rfl | ⟨1, _⟩ => rfl) _
theorem blk6 (c : Dev nD) (t : Fin cfg0.N) (j : Fin 768) : iblk m c 6 t (ix2 0 j) = V m c main_v4 (ix2 0 j) := by
  refine congrArg (V m c main_v4) (funext fun a => Fin.ext ?_)
  exact Window.rect_emb_val_of_index_zero win0_6 t a (by match a with | ⟨0, _⟩ => rfl | ⟨1, _⟩ => rfl) _
theorem blk7 (c : Dev nD) (t : Fin cfg0.N) (j : Fin 768) : iblk m c 7 t (ix2 0 j) = V m c main_v5 (ix2 0 j) := by
  refine congrArg (V m c main_v5) (funext fun a => Fin.ext ?_)
  exact Window.rect_emb_val_of_index_zero win0_7 t a (by match a with | ⟨0, _⟩ => rfl | ⟨1, _⟩ => rfl) _
theorem blk8 (c : Dev nD) (t : Fin cfg0.N) (v : Fin 30522) (k : Fin 768) : iblk m c 8 t (ix2 v k) = V m c main_arg8 (ix2 v k) := by
  refine congrArg (V m c main_arg8) (funext fun a => Fin.ext ?_)
  exact Window.rect_emb_val_of_index_zero win0_8 t a (by match a with | ⟨0, _⟩ => rfl | ⟨1, _⟩ => rfl) _
theorem blk9 (c : Dev nD) (t : Fin cfg0.N) (v : Fin 30522) : iblk m c 9 t (ix2 0 v) = V m c main_v6 (ix2 0 v) := by
  refine congrArg (V m c main_v6) (funext fun a => Fin.ext ?_)
  exact Window.rect_emb_val_of_index_zero win0_9 t a (by match a with | ⟨0, _⟩ => rfl | ⟨1, _⟩ => rfl) _
theorem blk10 (c : Dev nD) (t : Fin cfg0.N) (v : Fin 30522) : iblk m c 10 t (ix2 0 v) = V m c main_v7 (ix2 0 v) := by
  refine congrArg (V m c main_v7) (funext fun a => Fin.ext ?_)
  exact Window.rect_emb_val_of_index_zero win0_10 t a (by match a with | ⟨0, _⟩ => rfl | ⟨1, _⟩ => rfl) _
theorem blk11 (c : Dev nD) (t : Fin cfg0.N)  : iblk m c 11 t (ix1 0) = V m c main_v8 (ix1 0) := by
  refine congrArg (V m c main_v8) (funext fun a => Fin.ext ?_)
  exact Window.rect_emb_val_of_index_zero win0_11 t a (by match a with | ⟨0, _⟩ => rfl) _

/-! The arrays, from the arguments. -/
theorem in_x (c : Dev nD) (t : Fin cfg0.N) (d : Fin 128) (s : Fin 256) (k : Fin 768) : iblk m c 0 t (ix3 d s k) = (args m c).x d s k :=
  (blk0 m c t d s k).trans (congrFun (host_arg0 (fun b => m (c, b))) _)
theorem in_xs (c : Dev nD) (t : Fin cfg0.N) (d : Fin 128) (s : Fin 256) : iblk m c 1 t (ix3 d s 0) = (args m c).xs d s := by
  refine (blk1 m c t d s).trans ((congrFun (host_v0 (fun b => m (c, b))) _).trans ?_)
  exact lastOf _ _ (by norm_num) (by norm_num) d s
theorem in_lens (c : Dev nD) (t : Fin cfg0.N) (d : Fin 128) : iblk m c 2 t (ix3 d 0 0) = (args m c).lens d := by
  refine (blk2 m c t d).trans ((congrFun (host_v1 (fun b => m (c, b))) _).trans ?_)
  exact toDoc _ _ d
theorem in_w (c : Dev nD) (t : Fin cfg0.N) (k j : Fin 768) : iblk m c 3 t (ix2 k j) = (args m c).w k j :=
  (blk3 m c t k j).trans (congrFun (host_arg3 (fun b => m (c, b))) _)
theorem in_ws (c : Dev nD) (t : Fin cfg0.N) (j : Fin 768) : iblk m c 4 t (ix2 0 j) = (args m c).ws j := by
  refine (blk4 m c t j).trans ((congrFun (host_v2 (fun b => m (c, b))) _).trans ?_)
  exact rowOf _ _ (by norm_num) j
theorem in_b (c : Dev nD) (t : Fin cfg0.N) (j : Fin 768) : iblk m c 5 t (ix2 0 j) = (args m c).b j := by
  refine (blk5 m c t j).trans ((congrFun (host_v3 (fun b => m (c, b))) _).trans ?_)
  exact rowOf _ _ (by norm_num) j
theorem in_gam (c : Dev nD) (t : Fin cfg0.N) (j : Fin 768) : iblk m c 6 t (ix2 0 j) = (args m c).gam j := by
  refine (blk6 m c t j).trans ((congrFun (host_v4 (fun b => m (c, b))) _).trans ?_)
  exact rowOf _ _ (by norm_num) j
theorem in_beta (c : Dev nD) (t : Fin cfg0.N) (j : Fin 768) : iblk m c 7 t (ix2 0 j) = (args m c).beta j := by
  refine (blk7 m c t j).trans ((congrFun (host_v5 (fun b => m (c, b))) _).trans ?_)
  exact rowOf _ _ (by norm_num) j
theorem in_emb (c : Dev nD) (t : Fin cfg0.N) (v : Fin 30522) (k : Fin 768) : iblk m c 8 t (ix2 v k) = (args m c).emb v k :=
  (blk8 m c t v k).trans (congrFun (host_arg8 (fun b => m (c, b))) _)
theorem in_es (c : Dev nD) (t : Fin cfg0.N) (v : Fin 30522) : iblk m c 9 t (ix2 0 v) = (args m c).es v := by
  refine (blk9 m c t v).trans ((congrFun (host_v6 (fun b => m (c, b))) _).trans ?_)
  exact rowOf _ _ (by norm_num) v
theorem in_bv (c : Dev nD) (t : Fin cfg0.N) (v : Fin 30522) : iblk m c 10 t (ix2 0 v) = (args m c).bv v := by
  refine (blk10 m c t v).trans ((congrFun (host_v7 (fun b => m (c, b))) _).trans ?_)
  exact rowOf _ _ (by norm_num) v
theorem in_imp (c : Dev nD) (t : Fin cfg0.N) : iblk m c 11 t (ix1 0) = (args m c).imp := by
  refine (blk11 m c t).trans ((congrFun (host_v8 (fun b => m (c, b))) _).trans ?_)
  exact toOne _ _ _

end Cert.ReferenceIdeal.Pf

end
-- ==== Proof.Join.lean ====
/- Two facts that join the two programs: equal arguments are the same arguments, and what the condition on the impact scale says. -/
module

public import proofs.«01_k».proof.Proof.KernelIdeal.Inputs
public import proofs.«01_k».proof.Proof.ReferenceIdeal.Inputs
public import Idealize.ShloMosaic.Lib.IdealHost

@[expose] public section

set_option maxRecDepth 16384

noncomputable section

namespace Cert.Join

open Idealize.ShloMosaic Idealize.SL.Sem Cert.Spec Cert.Generic

/-- Arguments are equal when their parts are. -/
theorem args_ext (A B : Args) (h0 : A.x = B.x) (h1 : A.xs = B.xs) (h2 : A.lens = B.lens) (h3 : A.w = B.w) (h4 : A.ws = B.ws) (h5 : A.b = B.b) (h6 : A.gam = B.gam) (h7 : A.beta = B.beta) (h8 : A.emb = B.emb) (h9 : A.es = B.es) (h10 : A.bv = B.bv) (h11 : A.imp = B.imp) : A = B := by
  cases A; cases B
  simp only at h0 h1 h2 h3 h4 h5 h6 h7 h8 h9 h10 h11
  subst h0 h1 h2 h3 h4 h5 h6 h7 h8 h9 h10 h11
  rfl

/-- The reference's arguments are the kernel's. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
    m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
    m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
    m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
    m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
    m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
    m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
    m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
    m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧
    m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧
    m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧
    m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Pf.args m' c = Cert.KernelIdeal.Pf.args m c := by
  obtain ⟨h0, h1, h2, h3, h4, h5, h6, h7, h8, h9, h10, h11⟩ := h
  exact args_ext _ _ (funext fun d => funext fun s => funext fun k => congrFun h0 (ix3 d s k)) (funext fun d => funext fun s => congrFun h1 (ix2 d s)) (funext fun d => congrFun h2 (ix1 d)) (funext fun k => funext fun j => congrFun h3 (ix2 k j)) (funext fun j => congrFun h4 (ix1 j)) (funext fun j => congrFun h5 (ix1 j)) (funext fun j => congrFun h6 (ix1 j)) (funext fun j => congrFun h7 (ix1 j)) (funext fun v => funext fun k => congrFun h8 (ix2 v k)) (funext fun v => congrFun h9 (ix1 v)) (funext fun v => congrFun h10 (ix1 v)) (congrFun h11 (fun a => a.elim0))

/-- The comparison's word is one exactly where the scalar is not negative. -/
theorem nonneg_of_word (x : FVec Ideal ⟨0, ![]⟩ .f32) (j : (⟨0, ![]⟩ : Shape).Idx) (h : cmpf .oge x (constant ⟨0, ![]⟩ .f32 0x00000000#32) j = 1#1) :
    (0 : EReal) ≤ x (fun a => a.elim0) := by
  have hj : j = fun a => a.elim0 := funext fun a => a.elim0
  subst hj
  by_contra hn
  have hz : Ideal.ofBits .f32 0x00000000#32 = 0 := by simp
  have h' : Ideal.cmp .oge (x fun a => a.elim0) (Ideal.ofBits .f32 0x00000000#32) = 1#1 := h
  rw [hz] at h'
  simp [Ideal.cmp, hn] at h'

end Cert.Join

end
-- ==== Proof.Kernel.Transform.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first call: one document's quantised transform

    The call runs over 128 grid points, one per document.  At a point the body reads one document's codes and
    scales and the whole of the five parameter arrays, and stores that document's quantised codes (`out0_7`) and
    scales (`out0_8`).  Everything here is stated at a parameter `V`: what the buffers hold when the call begins. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- This input window's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- This input window's staging buffer holds its block at every point, whether or not it was fetched there. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x256x768 := Rect.unit (s := S1x256x768) ![0, 0, 0] S1x256x768.size inb_S1x256x768_S1x256x768_0_0_0
abbrev r0_1 : Rect S768x768 := Rect.unit (s := S768x768) ![0, 0] S768x768.size inb_S768x768_S768x768_0_0
abbrev r0_2 : Rect S1x256x1 := Rect.unit (s := S1x256x1) ![0, 0, 0] S1x256x1.size inb_S1x256x1_S1x256x1_0_0_0
abbrev r0_3 : Rect S1x768 := Rect.unit (s := S1x768) ![0, 0] S1x768.size inb_S1x768_S1x768_0_0

/-! ## What the body leaves in each output window's buffer -/

/-! ### Values of the body that the stores' payloads, spelt out, would write more than once

    Each is a vector the body binds (often a part call's result), stated over the input windows' blocks and
    numbered on from the skeleton's payload functions (`k0_pay7` …, after `k0_pay6`), so that
    `out0_W` and the values after it name it instead of spelling it out (`unfold_out out0_W` opens a canon
    with them, `unfold_payloads` opens them with the payloads); the comment after each is the printed function's
    name for the value (a count appended where that name is bound again). -/

def k0_pay7 (x0 : Vec F S1x256x768 .fp8e4m3) (x1 : Vec F S1x256x1 .f32) (x2 : Vec F S768x768 .fp8e4m3) (x3 : Vec F S1x768 .f32) (x4 : Vec F S1x768 .f32) (x5 : Vec F S1x768 .f32) (x6 : Vec F S1x768 .f32) : FVec F S256x768 .f32 :=
  k0_pay5 (View.ld x0 r0_0) (View.ld x2 r0_1) (View.ld x1 r0_2) (View.ld x3 r0_3) (View.ld x4 r0_3) -- `v29`
def k0_pay8 (x0 : Vec F S1x256x768 .fp8e4m3) (x1 : Vec F S1x256x1 .f32) (x2 : Vec F S768x768 .fp8e4m3) (x3 : Vec F S1x768 .f32) (x4 : Vec F S1x768 .f32) (x5 : Vec F S1x768 .f32) (x6 : Vec F S1x768 .f32) : FVec F S256x1 .f32 :=
  k0_pay6 (View.ld x0 r0_0) (View.ld x2 r0_1) (View.ld x1 r0_2) (View.ld x3 r0_3) (View.ld x4 r0_3) -- `v37`

/-- Window 7's staging buffer after the body, from the input windows' blocks: its 1 store as pieces, LAST
    FIRST (Lib/Pipeline/FrameBody.lean `View.canon`; the payloads are the skeleton's and the values stated above). -/
def out0_7 (x0 : Vec F S1x256x768 .fp8e4m3) (x1 : Vec F S1x256x1 .f32) (x2 : Vec F S768x768 .fp8e4m3) (x3 : Vec F S1x768 .f32) (x4 : Vec F S1x768 .f32) (x5 : Vec F S1x768 .f32) (x6 : Vec F S1x768 .f32) : Vec F S1x256x768 .fp8e4m3 :=
  View.canon [⟨r0_0, k0_pay3 (k0_pay7 x0 x1 x2 x3 x4 x5 x6) (k0_pay8 x0 x1 x2 x3 x4 x5 x6) (View.ld x5 r0_3) (View.ld x6 r0_3)⟩]

/-- Its stores tile the buffer (checked by evaluation), so they cover it. -/
theorem cover0_7 (p0 : Vec F S1x256x768 .fp8e4m3) (y : S1x256x768.Idx) :
    ∃ pc ∈ ([⟨r0_0, p0⟩] : List (View.Piece (Elt F) S1x256x768 .fp8e4m3)), y ∈ pc.1.set :=
  View.cover_of_tiled [⟨r0_0, p0⟩] S1x256x768.size (by rfl) y

/-- Window 8's staging buffer after the body, from the input windows' blocks: its 1 store as pieces, LAST
    FIRST (Lib/Pipeline/FrameBody.lean `View.canon`; the payloads are the skeleton's and the values stated above). -/
def out0_8 (x0 : Vec F S1x256x768 .fp8e4m3) (x1 : Vec F S1x256x1 .f32) (x2 : Vec F S768x768 .fp8e4m3) (x3 : Vec F S1x768 .f32) (x4 : Vec F S1x768 .f32) (x5 : Vec F S1x768 .f32) (x6 : Vec F S1x768 .f32) : Vec F S1x256x1 .f32 :=
  View.canon [⟨r0_2, k0_pay4 (k0_pay7 x0 x1 x2 x3 x4 x5 x6) (k0_pay8 x0 x1 x2 x3 x4 x5 x6) (View.ld x5 r0_3) (View.ld x6 r0_3)⟩]

/-- Its stores tile the buffer (checked by evaluation), so they cover it. -/
theorem cover0_8 (p0 : Vec F S1x256x1 .f32) (y : S1x256x1.Idx) :
    ∃ pc ∈ ([⟨r0_2, p0⟩] : List (View.Piece (Elt F) S1x256x1 .f32)), y ∈ pc.1.set :=
  View.cover_of_tiled [⟨r0_2, p0⟩] S1x256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x256x768 .fp8e4m3) (harg1 : arg1.IsWhole) (arg2 : Memref sig .tc .vmem S1x256x1 .f32) (harg2 : arg2.IsWhole) (arg3 : Memref sig .tc .vmem S768x768 .fp8e4m3) (harg3 : arg3.IsWhole) (arg4 : Memref sig .tc .vmem S1x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S1x256x768 .fp8e4m3) (harg8 : arg8.IsWhole) (arg9 : Memref sig .tc .vmem S1x256x1 .f32) (harg9 : arg9.IsWhole)
    (x0 : Vec F S1x256x768 .fp8e4m3) (x1 : Vec F S1x256x1 .f32) (x2 : Vec F S768x768 .fp8e4m3) (x3 : Vec F S1x768 .f32) (x4 : Vec F S1x768 .f32) (x5 : Vec F S1x768 .f32) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0_transform i arg1 harg1 arg2 harg2 arg3 harg3 arg4 harg4 arg5 harg5 arg6 harg6 arg7 harg7 arg8 harg8 arg9 harg9) K := by
  simp only [cc0_transform_eq_skeleton]; unfold cc0_transform_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rfl
  iexists _; isplitr
  swap; · iexact H8
  ipureintro
  refine (View.read_writes_eq_canon _ _ _ (cover0_8 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Pf

end
-- ==== Proof.Kernel.Pool.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.ValueIdx
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second call: one tile of 512 vocabulary columns

    At a grid point the body reads the document lengths, the impact scale, all documents' codes and scales and one
    tile of the vocabulary's codes, scales and biases.  A loop over the 128 documents leaves in a scratch array each
    document's largest logit per column; the outputs of the point are then functions of that array.  This module
    states what the scratch array holds after the loop (`mxv`) and what the six outputs hold after the body, for ANY
    contents of the staged inputs. -/

theorem trips_eq : k1_t1_loop.trips = 128 := by decide +kernel

/-- The trip of the loop that handles document `d`. -/
abbrev tripOf (d : Fin 128) : Fin k1_t1_loop.trips := ⟨d.val, by rw [trips_eq]; exact d.isLt⟩

/-- What trip `k` stores: the row of document `k`'s largest logits over its visible positions. -/
def mxRow (x0 : Vec F S128 .i32) (x2 : Vec F S128x256x768 .fp8e4m3) (x3 : Vec F S128x256x1 .f32) (x4 : Vec F S512x768 .fp8e4m3) (x5 : Vec F S1x512 .f32) (x6 : Vec F S1x512 .f32) (k : Fin k1_t1_loop.trips) : FVec F S1x512 .f32 :=
  k1_pay8 x5 x6 (View.ld x2 (Rect.unit (s := S128x256x768) (k1_off1 k) S1x256x768.size (k1_off1_inb k))) x4
    (View.ld x3 (Rect.unit (s := S128x256x1) (k1_off2 k) S1x256x1.size (k1_off2_inb k)))
    (View.ld x0 (Rect.unit (s := S128) (k1_off3 k) S1.size (k1_off3_inb k)) (Shape.Idx.first (numel1_S1.symm ▸ Nat.one_pos)))

/-- The scratch array after the loop: row `d` is document `d`'s. -/
def mxv (x0 : Vec F S128 .i32) (x2 : Vec F S128x256x768 .fp8e4m3) (x3 : Vec F S128x256x1 .f32) (x4 : Vec F S512x768 .fp8e4m3) (x5 : Vec F S1x512 .f32) (x6 : Vec F S1x512 .f32) : Vec F S128x512 .f32 :=
  fun y => mxRow x0 x2 x3 x4 x5 x6 (tripOf (y 0)) (ix2 0 (y 1))

/-- The one piece trip `k` writes: its document's row. -/
theorem trip_piece (𝒱 : Variants) (c : Dev nD) (bd : Option 𝒱.V) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole)
    (x0 : Vec F S128 .i32) (x2 : Vec F S128x256x768 .fp8e4m3) (x3 : Vec F S128x256x1 .f32) (x4 : Vec F S512x768 .fp8e4m3) (v0 : Vec F S1x512 .f32) (v2 : Vec F S1x512 .f32) (k : Fin k1_t1_loop.trips) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 (harg1.unread x0) (harg3.unread x2) (harg4.unread x3) (harg5.unread x4) k).1
      = [⟨Rect.unit (s := S128x512) (k1_off4 k) S1x512.size (k1_off4_inb k), mxRow x0 x2 x3 x4 v0 v2 k⟩] := by
  have e : ∀ (z0 : BufTy.Contents (Elt F) arg1.view.ty) (z2 : BufTy.Contents (Elt F) arg3.view.ty) (z3 : BufTy.Contents (Elt F) arg4.view.ty) (z4 : BufTy.Contents (Elt F) arg5.view.ty),
      (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 z0 z2 z3 z4 k).1
        = [⟨Rect.unit (s := S128x512) (k1_off4 k) S1x512.size (k1_off4_inb k), mxRow (arg1.view.read (Elt F) z0) (arg3.view.read (Elt F) z2) (arg4.view.read (Elt F) z3)
            (View.ld (arg5.view.read (Elt F) z4) (Rect.unit (s := S512x768) ![0, 0] S512x768.size inb_S512x768_S512x768_0_0)) v0 v2 k⟩] := by
    intro z0 z2 z3 z4
    unfold trip_k1_t1
    rfl
  rw [e, harg1.read_unread, harg3.read_unread, harg4.read_unread, harg5.read_unread,
    View.ld_unit_zero (S := S512x768) (by funext a; fin_cases a <;> rfl)]

/-- After `n` trips, the rows of the documents below `n` are theirs. -/
theorem read_pb (𝒱 : Variants) (c : Dev nD) (bd : Option 𝒱.V) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole)
    (x0 : Vec F S128 .i32) (x2 : Vec F S128x256x768 .fp8e4m3) (x3 : Vec F S128x256x1 .f32) (x4 : Vec F S512x768 .fp8e4m3) (v0 : Vec F S1x512 .f32) (v2 : Vec F S1x512 .f32)
    (f : BufTy.Contents (Elt F) arg14.view.ty) (n : ℕ) (hn : n ≤ 128) (y : S128x512.Idx) (hy : (y 0).val < n) :
    arg14.view.read (Elt F) (arg14.view.writes (Elt F) f (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 (harg1.unread x0) (harg3.unread x2) (harg4.unread x3) (harg5.unread x4) n)) y
      = mxv x0 x2 x3 x4 v0 v2 y := by
  induction n with
  | zero => omega
  | succ n ih =>
    have hk : n < k1_t1_loop.trips := by rw [trips_eq]; omega
    have e := pb_k1_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 (harg1.unread x0) (harg3.unread x2) (harg4.unread x3) (harg5.unread x4) ⟨n, hk⟩
    dsimp only at e
    rw [e, tripL_k1_t1, trip_piece, List.singleton_append]
    by_cases h : (y 0).val = n
    · refine (View.read_writes_cons_rows_of_mem (o := n) _ _ (k1_off4_inb ⟨n, hk⟩) _ _ y (ix2 0 (y 1)) (k1_off4_eq ⟨n, hk⟩) ?_ ?_).trans ?_
      · rw [h]; rfl
      · rfl
      · have : tripOf (y 0) = (⟨n, hk⟩ : Fin k1_t1_loop.trips) := Fin.ext h
        unfold mxv; rw [this]
    · refine (View.read_writes_cons_rows_of_not_mem (o := n) (W := 1) _ _ (k1_off4_inb ⟨n, hk⟩) _ _ y (k1_off4_eq ⟨n, hk⟩) rfl ?_).trans (ih (by omega) (by omega))
      left; omega

/-- The whole-array load of the scratch array after the loop. -/
theorem readAt_pb (𝒱 : Variants) (c : Dev nD) (bd : Option 𝒱.V) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole)
    (x0 : Vec F S128 .i32) (x2 : Vec F S128x256x768 .fp8e4m3) (x3 : Vec F S128x256x1 .f32) (x4 : Vec F S512x768 .fp8e4m3) (v0 : Vec F S1x512 .f32) (v2 : Vec F S1x512 .f32)
    (f : BufTy.Contents (Elt F) arg14.view.ty) :
    arg14.view.readAt (Elt F) (Rect.unit (s := S128x512) ![0, 0] S128x512.size inb_S128x512_S128x512_0_0).toLoadRect (arg14.view.writes (Elt F) f (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 (harg1.unread x0) (harg3.unread x2) (harg4.unread x3) (harg5.unread x4) (Scf.trips k1_t1_loop.lb k1_t1_loop.ub k1_t1_loop.st)))
      = mxv x0 x2 x3 x4 v0 v2 := by
  rw [View.readAt_eq_ld, View.ld_unit_zero (S := S128x512) (by funext a; fin_cases a <;> rfl)]
  funext y
  have e : Scf.trips k1_t1_loop.lb k1_t1_loop.ub k1_t1_loop.st = 128 := trips_eq
  rw [e]
  exact read_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x2 x3 x4 v0 v2 f 128 le_rfl y (y 0).isLt

/-- A store through the whole rectangle, made last, leaves its payload. -/
theorem read_writes_whole {sp : Space} {s : Shape} {e : EltTy} (v : View sig .tc sp s e) (f : v.ty.Contents (Elt F)) {off : Fin s.rank → ℕ}
    (h : off = fun _ => 0) (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  exact View.read_writes_cons_unit_of_mem v f inb w L y y h (fun a => by simp)

theorem off2_zero : (![0, 0] : Fin 2 → ℕ) = fun _ => 0 := by funext a; fin_cases a <;> rfl

/-- A load through the whole rectangle of given contents reads them. -/
theorem readAt_whole {sp : Space} {s : Shape} {e : EltTy} (mr : Memref sig .tc sp s e) (hm : mr.IsWhole) {off : Fin s.rank → ℕ}
    (h : off = fun _ => 0) (inb : ∀ a, off a + s.size a ≤ s.size a) (w : s.Idx → Elt F e) :
    mr.view.readAt (Elt F) (Rect.unit off s.size inb).toLoadRect (hm.unread w) = w := by
  rw [View.readAt_eq_ld, View.ld_unit_zero h, hm.read_unread]

/-- The condition under which the body clears its accumulators. -/
abbrev cond1_0 (i : grid1.Coords) : Prop := (Scalar.cmpi .ne (Scalar.extui (Scalar.cmpi .eq (BitVec.ofNat 32 (i 0).val) 0#32)) 0#32) = 1#1

/-- It holds at the first grid point only. -/
theorem hcond1_0 : ∀ t : Fin cfg1.N, cond1_0 (grid1.coords t) ↔ t.val % 60 = 0 :=
  (fun t => by
    have ht : t.val < 60 := Nat.lt_of_lt_of_eq t.isLt N_1
    have e0 : (grid1.coords t 0).val = t.val / 1 % 60 := Pipeline.Grid.coords_val t 0 (by decide) rfl
    simp only [cond1_0, e0]
    word_cmp
   : ∀ t : Fin grid1.N, cond1_0 (grid1.coords t) ↔ t.val % 60 = 0)

/-- The impact scale the body reads. -/
def impOf (x1 : Vec F S1 .f32) : Elt F .f32 :=
  View.ld x1 (Rect.unit (s := S1) ![0] S1.size inb_S1_S1_0) (Shape.Idx.first (numel1_S1.symm ▸ Nat.one_pos))

set_option maxHeartbeats 1000000 in
/-- The body at the first grid point: the inputs stay as they were, the outputs end at these functions of them. -/
theorem sound_pool_A (c : Dev nD) (E : Set ℕ) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole) (hc0 : cond1_0 i)
    (x0 : Vec F S128 .i32) (x1 : Vec F S1 .f32) (x2 : Vec F S128x256x768 .fp8e4m3) (x3 : Vec F S128x256x1 .f32) (x4 : Vec F S512x768 .fp8e4m3) (x5 : Vec F S1x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay9 i (mxv x0 x2 x3 x4 x5 x6)) ∗ owns (c : Thread nD τ) arg9 fullShare (k1_pay5 (k1_pay9 i (mxv x0 x2 x3 x4 x5 x6)) (k1_pay2 (F := F))) ∗ owns (c : Thread nD τ) arg10 fullShare (k1_pay1 (k1_pay9 i (mxv x0 x2 x3 x4 x5 x6))) ∗ owns (c : Thread nD τ) arg11 fullShare (k1_pay7 (k1_pay9 i (mxv x0 x2 x3 x4 x5 x6)) (k1_pay4 (F := F))) ∗ owns (c : Thread nD τ) arg12 fullShare (k1_pay10 i (impOf x1) (mxv x0 x2 x3 x4 x5 x6)) ∗ owns (c : Thread nD τ) arg13 fullShare (k1_pay6 (k1_pay11 i (impOf x1) (mxv x0 x2 x3 x4 x5 x6)) (k1_pay12 (F := F)) (k1_pay3 (F := F))) ∗ (∃ d, owns (c : Thread nD τ) arg14 fullShare d)) -∗ K ⟨⟩))
      ⊢ wp frame (wpE (defs₀ (F := F)) Variants.none c none) E (cc1_pool i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1_pool_eq_skeleton]; unfold cc1_pool_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  have hrd0 : ∀ (𝒱 : Variants) (c : Dev nD) (bd : Option 𝒱.V) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole) (v0 : Vec F S1x512 .f32) (v2 : Vec F S1x512 .f32) (X_arg1 : BufTy.Contents (Elt F) arg1.view.ty) (X_arg3 : BufTy.Contents (Elt F) arg3.view.ty) (X_arg4 : BufTy.Contents (Elt F) arg4.view.ty) (X_arg5 : BufTy.Contents (Elt F) arg5.view.ty) (hrdF : BufTy.Contents (Elt F) arg14.view.ty) (hrdB : LoadRect S128x512), arg14.view.readAt (Elt F) hrdB (arg14.view.writes (Elt F) hrdF (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st))) = arg14.view.readCov (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st)) hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 hrdF hrdB => View.readAt_writes_of_cover _ hrdF _ hrdB (fun hrdJ => View.cover_of_tiledL (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st)) S1x512.size (by sl_kernel_rfl) (hrdB.idx hrdJ))
  have hM : (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect) = mxv x0 x2 x3 x4 x5 x6 := by
    unfold View.readCov
    rw [readAt_pb, readAt_whole arg6 harg6 off2_zero, readAt_whole arg7 harg7 off2_zero]
  have hI : (arg2.view.readAt (Elt F) (Rect.unit (s := S1) ![0] S1.size inb_S1_S1_0).toLoadRect (harg2.unread x1) (Shape.Idx.first (numel1_S1.symm ▸ Nat.one_pos))) = impOf x1 := by
    rw [View.readAt_eq_ld, harg2.read_unread]; rfl
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ off2_zero _ _ _).trans ?_
    show (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) = _
    rw [hM]
  isplitl [H8]
  · iexists _; isplitr
    swap; · iexact H8
    ipureintro
    refine (read_writes_whole _ _ off2_zero _ _ _).trans ?_
    show k1_pay5 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (arg9.view.readCov [⟨Rect.unit (s := S128x1) ![0, 0] S128x1.size inb_S128x1_S128x1_0_0, k1_pay2 (F := F)⟩] (Rect.unit (s := S128x1) ![0, 0] S128x1.size inb_S128x1_S128x1_0_0).toLoadRect) = _
    rw [hM, View.readCov_unit_zero _ off2_zero]
  isplitl [H9]
  · iexists _; isplitr
    swap; · iexact H9
    ipureintro
    refine (read_writes_whole _ _ off2_zero _ _ _).trans ?_
    show k1_pay1 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) = _
    rw [hM]
  isplitl [H10]
  · iexists _; isplitr
    swap; · iexact H10
    ipureintro
    refine (read_writes_whole _ _ off2_zero _ _ _).trans ?_
    show k1_pay7 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (arg11.view.readCov [⟨Rect.unit (s := S1x1) ![0, 0] S1x1.size inb_S1x1_S1x1_0_0, k1_pay4 (F := F)⟩] (Rect.unit (s := S1x1) ![0, 0] S1x1.size inb_S1x1_S1x1_0_0).toLoadRect) = _
    rw [hM, View.readCov_unit_zero _ off2_zero]
  isplitl [H11]
  · iexists _; isplitr
    swap; · iexact H11
    ipureintro
    refine (read_writes_whole _ _ off2_zero _ _ _).trans ?_
    show k1_pay10 i (arg2.view.readAt (Elt F) (Rect.unit (s := S1) ![0] S1.size inb_S1_S1_0).toLoadRect (harg2.unread x1) (Shape.Idx.first (numel1_S1.symm ▸ Nat.one_pos))) (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect) = _
    rw [hM, hI]
  isplitl [H12]
  · iexists _; isplitr
    swap; · iexact H12
    ipureintro
    refine (read_writes_whole _ _ off2_zero _ _ _).trans ?_
    show k1_pay6 (k1_pay11 i (arg2.view.readAt (Elt F) (Rect.unit (s := S1) ![0] S1.size inb_S1_S1_0).toLoadRect (harg2.unread x1) (Shape.Idx.first (numel1_S1.symm ▸ Nat.one_pos))) (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (k1_pay12 (F := F)) (arg13.view.readCov [⟨Rect.unit (s := S128x1) ![0, 0] S128x1.size inb_S128x1_S128x1_0_0, k1_pay3 (F := F)⟩] (Rect.unit (s := S128x1) ![0, 0] S128x1.size inb_S128x1_S128x1_0_0).toLoadRect) = _
    rw [hM, hI, View.readCov_unit_zero _ off2_zero]
  iexists _, _; isplitr; swap; · iexact HS0
  ipureintro; rfl

set_option maxHeartbeats 1000000 in
/-- The body at a later grid point: the inputs stay as they were, the outputs end at these functions of them. -/
theorem sound_pool_B (c : Dev nD) (E : Set ℕ) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole) (hc0 : ¬cond1_0 i)
    (x0 : Vec F S128 .i32) (x1 : Vec F S1 .f32) (x2 : Vec F S128x256x768 .fp8e4m3) (x3 : Vec F S128x256x1 .f32) (x4 : Vec F S512x768 .fp8e4m3) (x5 : Vec F S1x512 .f32) (x6 : Vec F S1x512 .f32) (y8 : Vec F S128x1 .f32) (y10 : Vec F S1x1 .f32) (y12 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ (∃ d, owns (c : Thread nD τ) arg10 fullShare d) ∗ owns (c : Thread nD τ) arg11 fullShare y10 ∗ (∃ d, owns (c : Thread nD τ) arg12 fullShare d) ∗ owns (c : Thread nD τ) arg13 fullShare y12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay9 i (mxv x0 x2 x3 x4 x5 x6)) ∗ owns (c : Thread nD τ) arg9 fullShare (k1_pay5 (k1_pay9 i (mxv x0 x2 x3 x4 x5 x6)) y8) ∗ owns (c : Thread nD τ) arg10 fullShare (k1_pay1 (k1_pay9 i (mxv x0 x2 x3 x4 x5 x6))) ∗ owns (c : Thread nD τ) arg11 fullShare (k1_pay7 (k1_pay9 i (mxv x0 x2 x3 x4 x5 x6)) y10) ∗ owns (c : Thread nD τ) arg12 fullShare (k1_pay10 i (impOf x1) (mxv x0 x2 x3 x4 x5 x6)) ∗ owns (c : Thread nD τ) arg13 fullShare (k1_pay6 (k1_pay11 i (impOf x1) (mxv x0 x2 x3 x4 x5 x6)) (k1_pay12 (F := F)) y12) ∗ (∃ d, owns (c : Thread nD τ) arg14 fullShare d)) -∗ K ⟨⟩))
      ⊢ wp frame (wpE (defs₀ (F := F)) Variants.none c none) E (cc1_pool i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1_pool_eq_skeleton]; unfold cc1_pool_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%f10, %hf10, H10⟩, ⟨%d11, %f11, -, H11⟩, ⟨%f12, %hf12, H12⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg11.eq_unread hf10; obtain rfl := harg13.eq_unread hf12
  have hrd0 : ∀ (𝒱 : Variants) (c : Dev nD) (bd : Option 𝒱.V) (i : grid1.Coords) (arg1 : Memref sig .tc .smem S128 .i32) (harg1 : arg1.IsWhole) (arg2 : Memref sig .tc .smem S1 .f32) (harg2 : arg2.IsWhole) (arg3 : Memref sig .tc .vmem S128x256x768 .fp8e4m3) (harg3 : arg3.IsWhole) (arg4 : Memref sig .tc .vmem S128x256x1 .f32) (harg4 : arg4.IsWhole) (arg5 : Memref sig .tc .vmem S512x768 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S128x1 .f32) (harg9 : arg9.IsWhole) (arg10 : Memref sig .tc .vmem S1x512 .f32) (harg10 : arg10.IsWhole) (arg11 : Memref sig .tc .vmem S1x1 .f32) (harg11 : arg11.IsWhole) (arg12 : Memref sig .tc .vmem S128x512 .i8) (harg12 : arg12.IsWhole) (arg13 : Memref sig .tc .vmem S128x1 .f32) (harg13 : arg13.IsWhole) (arg14 : Memref sig .tc .vmem S128x512 .f32) (harg14 : arg14.IsWhole) (v0 : Vec F S1x512 .f32) (v2 : Vec F S1x512 .f32) (X_arg1 : BufTy.Contents (Elt F) arg1.view.ty) (X_arg3 : BufTy.Contents (Elt F) arg3.view.ty) (X_arg4 : BufTy.Contents (Elt F) arg4.view.ty) (X_arg5 : BufTy.Contents (Elt F) arg5.view.ty) (hrdF : BufTy.Contents (Elt F) arg14.view.ty) (hrdB : LoadRect S128x512), arg14.view.readAt (Elt F) hrdB (arg14.view.writes (Elt F) hrdF (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st))) = arg14.view.readCov (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st)) hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 hrdF hrdB => View.readAt_writes_of_cover _ hrdF _ hrdB (fun hrdJ => View.cover_of_tiledL (pb_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 X_arg1 X_arg3 X_arg4 X_arg5 (Scf.trips k1_t1_loop.lb k1_t1_loop.ub k1_t1_loop.st)) S1x512.size (by sl_kernel_rfl) (hrdB.idx hrdJ))
  have hM : (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect) = mxv x0 x2 x3 x4 x5 x6 := by
    unfold View.readCov
    rw [readAt_pb, readAt_whole arg6 harg6 off2_zero, readAt_whole arg7 harg7 off2_zero]
  have hI : (arg2.view.readAt (Elt F) (Rect.unit (s := S1) ![0] S1.size inb_S1_S1_0).toLoadRect (harg2.unread x1) (Shape.Idx.first (numel1_S1.symm ▸ Nat.one_pos))) = impOf x1 := by
    rw [View.readAt_eq_ld, harg2.read_unread]; rfl
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ off2_zero _ _ _).trans ?_
    show (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) = _
    rw [hM]
  isplitl [H8]
  · iexists _; isplitr
    swap; · iexact H8
    ipureintro
    refine (read_writes_whole _ _ off2_zero _ _ _).trans ?_
    show k1_pay5 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (arg9.view.readAt (Elt F) (Rect.unit (s := S128x1) ![0, 0] S128x1.size inb_S128x1_S128x1_0_0).toLoadRect (harg9.unread y8)) = _
    rw [hM, readAt_whole arg9 harg9 off2_zero]
  isplitl [H9]
  · iexists _; isplitr
    swap; · iexact H9
    ipureintro
    refine (read_writes_whole _ _ off2_zero _ _ _).trans ?_
    show k1_pay1 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) = _
    rw [hM]
  isplitl [H10]
  · iexists _; isplitr
    swap; · iexact H10
    ipureintro
    refine (read_writes_whole _ _ off2_zero _ _ _).trans ?_
    show k1_pay7 (k1_pay9 i (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (arg11.view.readAt (Elt F) (Rect.unit (s := S1x1) ![0, 0] S1x1.size inb_S1x1_S1x1_0_0).toLoadRect (harg11.unread y10)) = _
    rw [hM, readAt_whole arg11 harg11 off2_zero]
  isplitl [H11]
  · iexists _; isplitr
    swap; · iexact H11
    ipureintro
    refine (read_writes_whole _ _ off2_zero _ _ _).trans ?_
    show k1_pay10 i (arg2.view.readAt (Elt F) (Rect.unit (s := S1) ![0] S1.size inb_S1_S1_0).toLoadRect (harg2.unread x1) (Shape.Idx.first (numel1_S1.symm ▸ Nat.one_pos))) (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect) = _
    rw [hM, hI]
  isplitl [H12]
  · iexists _; isplitr
    swap; · iexact H12
    ipureintro
    refine (read_writes_whole _ _ off2_zero _ _ _).trans ?_
    show k1_pay6 (k1_pay11 i (arg2.view.readAt (Elt F) (Rect.unit (s := S1) ![0] S1.size inb_S1_S1_0).toLoadRect (harg2.unread x1) (Shape.Idx.first (numel1_S1.symm ▸ Nat.one_pos))) (arg14.view.readCov (pb_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (arg6.view.readAt (Elt F) (Rect.unit (s := S1x512) ![0, 0] S1x512.size inb_S1x512_S1x512_0_0).toLoadRect (harg6.unread x5)) (arg7.view.readAt (Elt F) (Rect.unit (s := S1x512) ![0, 0] S1x512.size inb_S1x512_S1x512_0_0).toLoadRect (harg7.unread x6)) (harg1.unread x0) (harg3.unread x2) (harg4.unread x3) (harg5.unread x4) (Scf.trips k1_t1_loop.lb k1_t1_loop.ub k1_t1_loop.st)) (Rect.unit (s := S128x512) ![0, 0] S128x512.size inb_S128x512_S128x512_0_0).toLoadRect)) (k1_pay12 (F := F)) (arg13.view.readAt (Elt F) (Rect.unit (s := S128x1) ![0, 0] S128x1.size inb_S128x1_S128x1_0_0).toLoadRect (harg13.unread y12)) = _
    rw [hM, hI, readAt_whole arg13 harg13 off2_zero]
  iexists _, _; isplitr; swap; · iexact HS0
  ipureintro; rfl

end Cert.Kernel.Pf

end
-- ==== Proof.Kernel.PoolData.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Kernel.Pool

public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling call's proof data

    The call runs over 60 grid points, one per tile of 512 vocabulary columns.  At a point the tile of the embedding
    (window 4), its scales (5) and the bias (6) are fetched; the last tile overhangs the arrays, so that what the
    staging buffers hold past the arrays' end is not known.  `rep1` is the tile of the result, the tail filled with
    zeros; `accL1`, `accF1`, `accS1` are the three running sums after each tile.  Everything is stated at a
    parameter `V`: what the buffers hold when the call begins. -/

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether or not it was fetched there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether or not it was fetched there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether or not it was fetched there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and its wholeness. -/
abbrev ms1_0 (t : Fin cfg1.N) : Memref sig .tc .smem S128 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x256x768 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x768 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x512 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S128x512 .i8 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x1 .f32 := win1_12.stage (cfg1.slots t 12)
abbrev hs1_12 (t : Fin cfg1.N) : (ms1_12 t).IsWhole := hstage1_12 ((cfg1.slots t 12).cast nbuf1_12)

/-- The scratch array the body gathers one document's row at a time in. -/
abbrev scM1_0 : Memref sig .tc .vmem S128x512 .f32 := Memref.whole cc1_scratch0

/-- The call's invariant with the scratch array as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## What one tile computes -/

/-- The embedding's tile, its tail past the array's end at zero. -/
def emb1 (c : Dev nD) (t : Fin cfg1.N) : Vec F S512x768 .fp8e4m3 :=
  win1_4.fill (grid1.coords t) (fun _ => Scalar.ofBits .fp8e4m3 0#8) (iblk1 V c 4 t)
/-- The embedding scales' tile, likewise. -/
def escl1 (c : Dev nD) (t : Fin cfg1.N) : Vec F S1x512 .f32 :=
  win1_5.fill (grid1.coords t) (fun _ => Scalar.ofBits .f32 0#32) (iblk1 V c 5 t)
/-- The bias's tile, likewise. -/
def bias1 (c : Dev nD) (t : Fin cfg1.N) : Vec F S1x512 .f32 :=
  win1_6.fill (grid1.coords t) (fun _ => Scalar.ofBits .f32 0#32) (iblk1 V c 6 t)

/-- The tile of the pooled representation. -/
def rep1 (c : Dev nD) (t : Fin cfg1.N) : FVec F S128x512 .f32 :=
  k1_pay9 (grid1.coords t) (mxv (iblk1 V c 0 t) (iblk1 V c 2 t) (iblk1 V c 3 t) (emb1 V c t) (escl1 V c t) (bias1 V c t))

/-- The impact codes of a tile of the representation at scale `s`. -/
def codesOf (s : Elt F .f32) (r : FVec F S128x512 .f32) : IVec S128x512 8 :=
  trunci 8 (fptosi 32 (minimumf (broadcast S128x512 (Scalar.ofBits .f32 0x437F0000#32))
    (maximumf (broadcast S128x512 (Scalar.ofBits .f32 0x00000000#32)) (roundeven (divf r (broadcast S128x512 s)))))) natLt_8_32

/-- By how much a tile of the representation exceeds the largest code's value at scale `s`. -/
def excessOf (s : Elt F .f32) (r : FVec F S128x512 .f32) : FVec F S128x512 .f32 :=
  subf r (broadcast S128x512 (Scalar.mulf (Scalar.ofBits .f32 0x437F0000#32) s))

theorem pay10_eq (i : grid1.Coords) (s : Elt F .f32) (m : Vec F S128x512 .f32) : k1_pay10 i s m = codesOf s (k1_pay9 i m) := rfl
theorem pay11_eq (i : grid1.Coords) (s : Elt F .f32) (m : Vec F S128x512 .f32) : k1_pay11 i s m = excessOf s (k1_pay9 i m) := rfl

/-- The running sum of the representation's absolute values, per document. -/
def accL1 (c : Dev nD) : (n : ℕ) → n < cfg1.N → Vec F S128x1 .f32
  | 0, h => k1_pay5 (rep1 V c ⟨0, h⟩) k1_pay2
  | n + 1, h => k1_pay5 (rep1 V c ⟨n + 1, h⟩) (accL1 c n (Nat.lt_of_succ_lt h))
/-- The running sum of the squared column means. -/
def accF1 (c : Dev nD) : (n : ℕ) → n < cfg1.N → Vec F S1x1 .f32
  | 0, h => k1_pay7 (rep1 V c ⟨0, h⟩) k1_pay4
  | n + 1, h => k1_pay7 (rep1 V c ⟨n + 1, h⟩) (accF1 c n (Nat.lt_of_succ_lt h))
/-- The running sum of the excess above the largest code, per document. -/
def accS1 (c : Dev nD) : (n : ℕ) → n < cfg1.N → Vec F S128x1 .f32
  | 0, h => k1_pay6 (excessOf (impOf (iblk1 V c 1 ⟨0, h⟩)) (rep1 V c ⟨0, h⟩)) k1_pay12 k1_pay3
  | n + 1, h => k1_pay6 (excessOf (impOf (iblk1 V c 1 ⟨n + 1, h⟩)) (rep1 V c ⟨n + 1, h⟩)) k1_pay12 (accS1 c n (Nat.lt_of_succ_lt h))

theorem accL1_first (c : Dev nD) (t : Fin cfg1.N) (h0 : t.val % 60 = 0) : accL1 V c t.val t.isLt = k1_pay5 (rep1 V c t) k1_pay2 := by
  have hN : t.val < 60 := lt_of_lt_of_eq t.isLt (show cfg1.N = 60 from N_1)
  obtain ⟨n, hn⟩ := t
  cases n with
  | zero => rfl
  | succ n => exfalso; dsimp only at h0 hN; omega
theorem accF1_first (c : Dev nD) (t : Fin cfg1.N) (h0 : t.val % 60 = 0) : accF1 V c t.val t.isLt = k1_pay7 (rep1 V c t) k1_pay4 := by
  have hN : t.val < 60 := lt_of_lt_of_eq t.isLt (show cfg1.N = 60 from N_1)
  obtain ⟨n, hn⟩ := t
  cases n with
  | zero => rfl
  | succ n => exfalso; dsimp only at h0 hN; omega
theorem accS1_first (c : Dev nD) (t : Fin cfg1.N) (h0 : t.val % 60 = 0) :
    accS1 V c t.val t.isLt = k1_pay6 (excessOf (impOf (iblk1 V c 1 t)) (rep1 V c t)) k1_pay12 k1_pay3 := by
  have hN : t.val < 60 := lt_of_lt_of_eq t.isLt (show cfg1.N = 60 from N_1)
  obtain ⟨n, hn⟩ := t
  cases n with
  | zero => rfl
  | succ n => exfalso; dsimp only at h0 hN; omega
theorem accL1_next (c : Dev nD) (t : Fin cfg1.N) (h0 : ¬t.val % 60 = 0) : accL1 V c t.val t.isLt
    = k1_pay5 (rep1 V c t) (accL1 V c (t.val - 1) (Nat.lt_of_le_of_lt (Nat.sub_le _ _) t.isLt)) := by
  obtain ⟨n, hn⟩ := t
  cases n with
  | zero => exact absurd (Nat.zero_mod _) h0
  | succ n => rfl
theorem accF1_next (c : Dev nD) (t : Fin cfg1.N) (h0 : ¬t.val % 60 = 0) : accF1 V c t.val t.isLt
    = k1_pay7 (rep1 V c t) (accF1 V c (t.val - 1) (Nat.lt_of_le_of_lt (Nat.sub_le _ _) t.isLt)) := by
  obtain ⟨n, hn⟩ := t
  cases n with
  | zero => exact absurd (Nat.zero_mod _) h0
  | succ n => rfl
theorem accS1_next (c : Dev nD) (t : Fin cfg1.N) (h0 : ¬t.val % 60 = 0) : accS1 V c t.val t.isLt
    = k1_pay6 (excessOf (impOf (iblk1 V c 1 t)) (rep1 V c t)) k1_pay12 (accS1 V c (t.val - 1) (Nat.lt_of_le_of_lt (Nat.sub_le _ _) t.isLt)) := by
  obtain ⟨n, hn⟩ := t
  cases n with
  | zero => exact absurd (Nat.zero_mod _) h0
  | succ n => rfl

/-! ## The proof data -/

/-- The call's proof data on core `c`: the arrays as the call finds them; what each staging buffer holds after the
    body at point `t`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => emb1 V c t
    | ⟨5, _⟩ => escl1 V c t
    | ⟨6, _⟩ => bias1 V c t
    | ⟨7, _⟩ => rep1 V c t
    | ⟨8, _⟩ => accL1 V c t.val t.isLt
    | ⟨9, _⟩ => k1_pay1 (rep1 V c t)
    | ⟨10, _⟩ => accF1 V c t.val t.isLt
    | ⟨11, _⟩ => codesOf (impOf (iblk1 V c 1 t)) (rep1 V c t)
    | ⟨12, _⟩ => accS1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = emb1 V c t := by dsimp only [dat1]
theorem after1_5 (c : Dev nD) (t : Fin cfg1.N) : (dat1 V c).after 5 t = escl1 V c t := by dsimp only [dat1]
theorem after1_6 (c : Dev nD) (t : Fin cfg1.N) : (dat1 V c).after 6 t = bias1 V c t := by dsimp only [dat1]
theorem after1_7 (c : Dev nD) (t : Fin cfg1.N) : (dat1 V c).after 7 t = rep1 V c t := by dsimp only [dat1]
theorem after1_8 (c : Dev nD) (t : Fin cfg1.N) : (dat1 V c).after 8 t = accL1 V c t.val t.isLt := by dsimp only [dat1]
theorem after1_9 (c : Dev nD) (t : Fin cfg1.N) : (dat1 V c).after 9 t = k1_pay1 (rep1 V c t) := by dsimp only [dat1]
theorem after1_10 (c : Dev nD) (t : Fin cfg1.N) : (dat1 V c).after 10 t = accF1 V c t.val t.isLt := by dsimp only [dat1]
theorem after1_11 (c : Dev nD) (t : Fin cfg1.N) : (dat1 V c).after 11 t = codesOf (impOf (iblk1 V c 1 t)) (rep1 V c t) := by dsimp only [dat1]
theorem after1_12 (c : Dev nD) (t : Fin cfg1.N) : (dat1 V c).after 12 t = accS1 V c t.val t.isLt := by dsimp only [dat1]

/-! What the body finds in each staging buffer. -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) :
    (dat1 V c).before 4 t d = win1_4.fill (grid1.coords t) d (iblk1 V c 4 t) := by
  unfold Dat.before; rw [if_pos (fetch1_4 t)]; rfl
theorem before1_5 (c : Dev nD) (t : Fin cfg1.N) (d) :
    (dat1 V c).before 5 t d = win1_5.fill (grid1.coords t) d (iblk1 V c 5 t) := by
  unfold Dat.before; rw [if_pos (fetch1_5 t)]; rfl
theorem before1_6 (c : Dev nD) (t : Fin cfg1.N) (d) :
    (dat1 V c).before 6 t d = win1_6.fill (grid1.coords t) d (iblk1 V c 6 t) := by
  unfold Dat.before; rw [if_pos (fetch1_6 t)]; rfl
theorem before1_8_B (c : Dev nD) (t : Fin cfg1.N) (h0 : ¬t.val % 60 = 0) (d) :
    (dat1 V c).before 8 t d = accL1 V c (t.val - 1) (Nat.lt_of_le_of_lt (Nat.sub_le _ _) t.isLt) := by
  have hN : t.val < 60 := lt_of_lt_of_eq t.isLt (show cfg1.N = 60 from N_1)
  rw [Dat.before_out_kept _ 8 rfl t (by omega) (Bool.eq_false_iff.mpr fun h => by have := (flush1_8 _).mp h; dsimp only at this; omega)
    (fun _ => rfl) (fun _ _ => rfl)]
  dsimp only [dat1]
theorem before1_10_B (c : Dev nD) (t : Fin cfg1.N) (h0 : ¬t.val % 60 = 0) (d) :
    (dat1 V c).before 10 t d = accF1 V c (t.val - 1) (Nat.lt_of_le_of_lt (Nat.sub_le _ _) t.isLt) := by
  have hN : t.val < 60 := lt_of_lt_of_eq t.isLt (show cfg1.N = 60 from N_1)
  rw [Dat.before_out_kept _ 10 rfl t (by omega) (Bool.eq_false_iff.mpr fun h => by have := (flush1_10 _).mp h; dsimp only at this; omega)
    (fun _ => rfl) (fun _ _ => rfl)]
  dsimp only [dat1]
theorem before1_12_B (c : Dev nD) (t : Fin cfg1.N) (h0 : ¬t.val % 60 = 0) (d) :
    (dat1 V c).before 12 t d = accS1 V c (t.val - 1) (Nat.lt_of_le_of_lt (Nat.sub_le _ _) t.isLt) := by
  have hN : t.val < 60 := lt_of_lt_of_eq t.isLt (show cfg1.N = 60 from N_1)
  rw [Dat.before_out_kept _ 12 rfl t (by omega) (Bool.eq_false_iff.mpr fun h => by have := (flush1_12 _).mp h; dsimp only at this; omega)
    (fun _ => rfl) (fun _ _ => rfl)]
  dsimp only [dat1]

/-- The body table's row at point `t`'s slots is the body on the point's staging buffers. -/
theorem defs₀_row1 (t : Fin cfg1.N) :
    defs₀ (F := F) .tc cfg1.body (cfg1.bodyArgs t (cfg1.slots t)) = bodyAt1 t := by
  unfold defs₀; rw [Defs.onTc_tc]

end Cert.Kernel.Pf

end
-- ==== Proof.Kernel.Boundaries.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Kernel.Transform
public import proofs.«01_k».proof.Proof.Kernel.PoolData

public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-! # The buffers between the parts of the program

    The program is: host operations, the transform call, host operations, the pooling call, host operations.
    `W0` … `W5` are what the buffers hold at the boundaries, each got from the one before; an argument array holds
    its launch contents at every boundary. -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v12, main_v13, main_v14, main_v15, main_v16]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Pf

end
-- ==== Proof.Kernel.PoolForget.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Kernel.PoolData

public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling call's body, its outputs forgotten

    In rounded arithmetic a product of two tiles may depend on every entry of both, so on the last tile the
    results may depend on what the staging buffers hold past the arrays' end.  The frame claim reads no result: the
    six outputs are handed to the body at any contents and taken back at any contents. -/

/-- The windows nothing is said of: the outputs. -/
def fgt1 : Fin cfg1.W → Bool := fun w => decide (7 ≤ w.val)

/-- The body at any point, the inputs kept and the outputs at any contents. -/
theorem body_obligation1 (c : Dev nD) :
    Pipeline.BodyObligationLoose (dat1 (F := F) V c) (defs₀ (F := F)) Variants.none () Set.univ fgt1 := fun t => by
  rw [bigSep_W1, bigSep_W1, defs₀_row1]
  simp only [show fgt1 0 = false from rfl, show fgt1 1 = false from rfl, show fgt1 2 = false from rfl, show fgt1 3 = false from rfl, show fgt1 4 = false from rfl, show fgt1 5 = false from rfl, show fgt1 6 = false from rfl, show fgt1 7 = true from rfl, show fgt1 8 = true from rfl, show fgt1 9 = true from rfl, show fgt1 10 = true from rfl, show fgt1 11 = true from rfl, show fgt1 12 = true from rfl]
  rw [show (dat1 V c).Φ t.succ = (dat1 V c).Φ t.castSucc from rfl,
    show (dat1 V c).owesAt () t.succ = (dat1 V c).owesAt () t.castSucc from rfl]
  rw [show (dat1 V c).Φ t.castSucc = Pipeline.ΦA spec1 c from rfl, PhiA1_eq]
  simp only [before1_0, before1_1, before1_2, before1_3, before1_4, before1_5, before1_6]
  rw [after1_0, after1_1, after1_2, after1_3, after1_4, after1_5, after1_6]
  by_cases h0 : t.val % 60 = 0
  · iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_pool_A c Set.univ (grid1.coords t) _ _ _ _ _ _ _ _ _ _ _ _ _ _ _ _ _ _ _ _ _ _ _ _ _ _ _ _ ((hcond1_0 t).mpr h0)
      (iblk1 V c 0 t) (iblk1 V c 1 t) (iblk1 V c 2 t) (iblk1 V c 3 t) (win1_4.fill (grid1.coords t) d4 (iblk1 V c 4 t)) (win1_5.fill (grid1.coords t) d5 (iblk1 V c 5 t)) (win1_6.fill (grid1.coords t) d6 (iblk1 V c 6 t)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, H8, H9, H10, H11, H12, HS0⟩
    isplitl [HR0 HR1 HR2 HR3 HR4 HR5 HR6 HR7 HR8 HR9 HR10 HR11 HR12 HS0 Hg]
    · isplitl [HR0 HR1 HR2 HR3 HR4 HR5 HR6 HR7 HR8 HR9 HR10 HR11 HR12 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        iexact HS0
      iexact Hg
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (ms1_4 t) fullShare (win1_4.fill (grid1.coords t) d4 (win1_4.cut (grid1.coords t) (emb1 V c t)))
      unfold emb1; rw [Pipeline.Window.cut_fill]
    isplitl [H5]
    · iexists d5
      change _ ⊢ owns (c : Thread nD τ) (ms1_5 t) fullShare (win1_5.fill (grid1.coords t) d5 (win1_5.cut (grid1.coords t) (escl1 V c t)))
      unfold escl1; rw [Pipeline.Window.cut_fill]
    isplitl [H6]
    · iexists d6
      change _ ⊢ owns (c : Thread nD τ) (ms1_6 t) fullShare (win1_6.fill (grid1.coords t) d6 (win1_6.cut (grid1.coords t) (bias1 V c t)))
      unfold bias1; rw [Pipeline.Window.cut_fill]
    isplitl [H7]; · iexists _; iexact H7
    isplitl [H8]; · iexists _; iexact H8
    isplitl [H9]; · iexists _; iexact H9
    isplitl [H10]; · iexists _; iexact H10
    isplitl [H11]; · iexists _; iexact H11
    iexists _; iexact H12
  · iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_pool_B c Set.univ (grid1.coords t) _ _ _ _ _ _ _ _ _ _ _ _ _ _ _ _ _ _ _ _ _ _ _ _ _ _ _ _ (fun h => h0 ((hcond1_0 t).mp h))
      (iblk1 V c 0 t) (iblk1 V c 1 t) (iblk1 V c 2 t) (iblk1 V c 3 t) (win1_4.fill (grid1.coords t) d4 (iblk1 V c 4 t)) (win1_5.fill (grid1.coords t) d5 (iblk1 V c 5 t)) (win1_6.fill (grid1.coords t) d6 (iblk1 V c 6 t)) d8 d10 d12 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexists _; iexact H9
    isplitl [H10]; · iexact H10
    isplitl [H11]; · iexists _; iexact H11
    isplitl [H12]; · iexact H12
    isplitl [HS0]; · iexact HS0
    iintro ⟨H0, H1, H2, H3, H4, H5, H6, H7, H8, H9, H10, H11, H12, HS0⟩
    isplitl [HR0 HR1 HR2 HR3 HR4 HR5 HR6 HR7 HR8 HR9 HR10 HR11 HR12 HS0 Hg]
    · isplitl [HR0 HR1 HR2 HR3 HR4 HR5 HR6 HR7 HR8 HR9 HR10 HR11 HR12 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        iexact HS0
      iexact Hg
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (ms1_4 t) fullShare (win1_4.fill (grid1.coords t) d4 (win1_4.cut (grid1.coords t) (emb1 V c t)))
      unfold emb1; rw [Pipeline.Window.cut_fill]
    isplitl [H5]
    · iexists d5
      change _ ⊢ owns (c : Thread nD τ) (ms1_5 t) fullShare (win1_5.fill (grid1.coords t) d5 (win1_5.cut (grid1.coords t) (escl1 V c t)))
      unfold escl1; rw [Pipeline.Window.cut_fill]
    isplitl [H6]
    · iexists d6
      change _ ⊢ owns (c : Thread nD τ) (ms1_6 t) fullShare (win1_6.fill (grid1.coords t) d6 (win1_6.cut (grid1.coords t) (bias1 V c t)))
      unfold bias1; rw [Pipeline.Window.cut_fill]
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Kernel.Pf

end
-- ==== Proof.Kernel.Frame.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Kernel.Boundaries
public import proofs.«01_k».proof.Proof.Kernel.PoolForget

public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-! # The frame: the arguments end unchanged -/

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The pooling call's proof data with its outputs forgotten, the transform call's exact. -/
def rdats : (p : Fin 2) → (c : Dev nD) → Pipeline.RDat τ (Elt F) Unit ℕ (UR sig nD τ) ℕ (Pipeline.pin (pcfgs (F := F)) adm p) c
  | ⟨0, _⟩ => fun c => (dat0 (V1 m ρ) c).toR
  | ⟨1, _⟩ => fun c => (dat1 (V3 m ρ) c).toRForget fgt1

/-- Contents of the pooling call's arrays at its end: its inputs' are known, its outputs' are any. -/
abbrev Ends (c : Dev nD) (A : (w : Fin cfg1.W) → Buf (Elt F) ((cfg1.win w).arr.view.loc (c.tc : Thread nD τ))) : Prop :=
  ∀ w, fgt1 w = false → A w = (dat1 (V3 m ρ) c).arrAt w cfg1.N

/-- What the buffers hold after the pooling call, its arrays at `A`, -/
def X4 (c : Dev nD) (A : (w : Fin cfg1.W) → Buf (Elt F) ((cfg1.win w).arr.view.loc (c.tc : Thread nD τ))) : Valuation τ sig (Elt F) :=
  Pipeline.withArrays spec1 c (W3 m ρ c) A
/-- and after the host operations that follow. -/
def X5 (c : Dev nD) (A : (w : Fin cfg1.W) → Buf (Elt F) ((cfg1.win w).arr.view.loc (c.tc : Thread nD τ))) : Valuation τ sig (Elt F) :=
  StableHlo.after hostOps2 (X4 m ρ c A)

/-- An argument array holds its launch contents to the end, whatever the outputs are. -/
theorem X5_args (c : Dev nD) (A) (hA : Ends m ρ c A) : ∀ a ∈ argRefs, X5 m ρ c A (Proc.devRef .tc a) = m ((c : Thread nD τ).loc a) := by
  intro a ha
  have h5 : X5 m ρ c A (Proc.devRef .tc a) = X4 m ρ c A (Proc.devRef .tc a) :=
    StableHlo.after_of_writes_sub hostOps2 _ hostOps2_writes (hostOps2_args a ha)
  refine h5.trans ((?_ : X4 m ρ c A (Proc.devRef .tc a) = W3 m ρ c (Proc.devRef .tc a)).trans (W3_args m ρ c a ha))
  unfold X4
  by_cases hw : ∃ w : Fin cfg1.W, Pipeline.arrRef spec1 w = a
  · obtain ⟨w, rfl⟩ := hw
    have hin := argsIn1 _ ha w rfl
    have hf : fgt1 w = false := by
      revert hin; clear * -; revert w; decide
    exact (Pipeline.withArrays_arr spec1 launch1.win.arr_inj c _ _ w).trans ((hA w hf).trans
      (((dat1 (V3 m ρ) c).arrAt_in w hin _).trans (A_eq1 (V3 m ρ) c w)))
  · exact Pipeline.withArrays_of_ne spec1 c _ _ a fun w e => hw ⟨w, e⟩

set_option backward.isDefEq.respectTransparency.types false in
/-- The transform call as a segment of the program whose pooling call is forgetful. -/
def reg0R : Pipeline.RDat.RegionSeg (pcfgs (F := F)) adm (rdats m ρ) () defs₀ 𝒱₀ L lv 0 :=
  let S := (reg0 m ρ).toR (pcfgs (F := F)) adm (pdats m ρ) () defs₀ 𝒱₀ L lv
  { win := S.win, block_pos := S.block_pos, stage_whole := S.stage_whole, K := S.K, fK := S.fK, osem := S.osem, ho := S.ho,
    hbody := S.hbody, hwaits := Pipeline.RDat.hwaits_of_owed_zero _ _ _ _ L lv 0 fun _ _ => rfl,
    pre := S.pre, post := S.post, X := S.X, Y := S.Y, Z := S.Z, hentry := S.hentry, hin := S.hin, hout := S.hout, hexit := S.hexit }

/-- The pooling call's arrays at its end, as one family of contents. -/
theorem arraysAt_open (c : Dev nD) : ((rdats m ρ 1 c).arraysAt cfg1.N : sProp 𝕄)
    ⊢ iprop(∃ A, ⌜Ends m ρ c A⌝ ∗ (pdats m ρ 1 c).arrays A) := by
  unfold Pipeline.RDat.arraysAt
  iintro Ha
  ihave Ha' := (BI.bigSep_exists_pi Finset.univ (fun w F => iprop(⌜(rdats m ρ 1 c).ArrAt w cfg1.N F⌝
      ∗ (cfg1.win w).arr.view.loc (c.tc : Thread nD τ) ↦[(cfg1.win w).arr.view.set]{(rdats m ρ 1 c).share w} F))) $$ Ha
  icases Ha' with ⟨%A, Ha⟩
  ihave Ha2 := (BI.bigSep_pure_sep Finset.univ (fun w => (rdats m ρ 1 c).ArrAt w cfg1.N (A w))
      (fun w => (cfg1.win w).arr.view.loc (c.tc : Thread nD τ) ↦[(cfg1.win w).arr.view.set]{(rdats m ρ 1 c).share w} A w)) $$ Ha
  icases Ha2 with ⟨%hA', Ha⟩
  iexists A; isplitr
  · ipureintro
    exact fun w hf => (Pipeline.Dat.toRForget_arrAt_iff (dat1 (V3 m ρ) c) hf cfg1.N (A w)).mp (hA' w (Finset.mem_univ w))
  unfold Pipeline.Dat.arrays
  iexact Ha

set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1R : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).toRForget
  hwaits := Pipeline.RDat.hwaits_of_owed_zero _ _ _ _ L lv 1 fun _ _ => rfl
  pre c := iprop(StableHlo.held (c : Thread nD τ) (Pipeline.ucRefs τ sig) (W3 m ρ c) ∗ R c)
  post c := iprop(∃ A, ⌜Ends m ρ c A⌝ ∗ StableHlo.held (c : Thread nD τ) (Pipeline.ucRefs τ sig) (X4 m ρ c A) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.RDat.arrays_of_unscopedBufs (p := 1) (pcfgs (F := F)) adm (rdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    ihave Ha' := (arraysAt_open m ρ c) $$ Ha
    icases Ha' with ⟨%A, %hA, Ha⟩
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (fun b => X4 m ρ c A b) A
      (fun w => (show X4 m ρ c A (Proc.devRef .tc (Pipeline.arrRef spec1 w)) = A w from by
        unfold X4; exact Pipeline.withArrays_arr spec1 launch1.win.arr_inj c _ _ w).symm)
      (fun b hb => show X4 m ρ c A (Proc.devRef .tc b) = W3 m ρ c (Proc.devRef .tc b) from by
        unfold X4; exact Pipeline.withArrays_of_ne spec1 c _ _ b fun w e => hb (Finset.mem_image.mpr ⟨w, Finset.mem_univ _, e⟩))
    rw [Pipeline.unscopedBufs_held] at hjoin
    imodintro
    iexists A
    isplitr; · ipureintro; exact hA
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The last host operations, from the pooling call's arrays at whatever contents it left. -/
def hostLast : Pipeline.HostSeg (Name := ℕ) (U := UR sig nD τ) (pcfgs (F := F)) defs₀ 𝒱₀ L lv where
  prog := StableHlo.seq hostOps2
  pre c := iprop(∃ A, ⌜Ends m ρ c A⌝ ∗ StableHlo.held (c : Thread nD τ) (Pipeline.ucRefs τ sig) (X4 m ρ c A) ∗ R c)
  post c := iprop(∃ A, ⌜Ends m ρ c A⌝ ∗ StableHlo.held (c : Thread nD τ) (Pipeline.ucRefs τ sig) (X5 m ρ c A) ∗ R c)
  run c {β} k K := by
    iintro ⟨Hk, Hbd, ⟨%A, %hA, Hh, HR⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (X4 m ρ c A)
    iapply hseq $$ [Hbd Hh]
    · isplitl [Hbd] <;> iassumption
    iintro ⟨Hbd, Hh⟩
    iapply Hk
    isplitl [Hbd]; · iexact Hbd
    iexists A
    isplitr; · ipureintro; exact hA
    isplitl [Hh]; · iexact Hh
    iexact HR

/-- The last thread state: every unscoped buffer at what the last host operations leave, the outputs at any contents. -/
abbrev Tₙ (c : Dev nD) : sProp 𝕄 :=
  iprop((∃ A, ⌜Ends m ρ c A⌝ ∗ StableHlo.held (c : Thread nD τ) (Pipeline.ucRefs τ sig) (X5 m ρ c A)) ∗ ∃ r, prngReg c r)

/-- The program's five segments in order. -/
abbrev segs : List (Pipeline.RDat.Seg (pcfgs (F := F)) adm (rdats m ρ) () defs₀ 𝒱₀ L lv) :=
  [ .host (hseg hostOps0 hostOps0_sub hostOps0_fresh (W0 m ρ)),
    .region (reg0R m ρ),
    .host (hseg hostOps1 hostOps1_sub hostOps1_fresh (W2 m ρ)),
    .region (reg1R m ρ),
    .host (hostLast m ρ) ]
/-- The program is the run of the segments. -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE FRAME: every execution ends, nothing faulting, with the arguments as they began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.RDat.Seg.post, hostLast]
      iintro ⟨%A, %hA, Hh, Hp, HO⟩
      isplitl [Hh Hp]
      · isplitl [Hh]
        · iexists A; isplitr; · ipureintro; exact hA
          iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ A, Ends m ρ c A ∧ ∀ b ∈ Pipeline.ucRefs τ sig, s.mem (((c : Thread nD τ)).1, b) = X5 m ρ c A b)
    (hfin := fun c s' => by
      iintro ⟨⟨⟨%A, %hA, Hh⟩, -⟩, HSI⟩
      unfold StableHlo.held
      imodintro
      ihave Hr := (pointsTo_read_all (Pipeline.ucRefs τ sig) (fun b => (((c : Thread nD τ)).1, b)) (X5 m ρ c A) s') $$ [Hh HSI]
      · isplitl [Hh] <;> iassumption
      icases Hr with ⟨%hr, HSI⟩
      isplitr; · ipureintro; exact ⟨A, hA, hr⟩
      iexact HSI)
    (hQ := fun s h hz => ⟨(fun c => by
      obtain ⟨A, hA, hr⟩ := h c
      exact ⟨(hr _ (mem_uc main_arg0 (by decide))).trans (X5_args m ρ c A hA main_arg0 (by decide)),
        (hr _ (mem_uc main_arg1 (by decide))).trans (X5_args m ρ c A hA main_arg1 (by decide)),
        (hr _ (mem_uc main_arg2 (by decide))).trans (X5_args m ρ c A hA main_arg2 (by decide)),
        (hr _ (mem_uc main_arg3 (by decide))).trans (X5_args m ρ c A hA main_arg3 (by decide)),
        (hr _ (mem_uc main_arg4 (by decide))).trans (X5_args m ρ c A hA main_arg4 (by decide)),
        (hr _ (mem_uc main_arg5 (by decide))).trans (X5_args m ρ c A hA main_arg5 (by decide)),
        (hr _ (mem_uc main_arg6 (by decide))).trans (X5_args m ρ c A hA main_arg6 (by decide)),
        (hr _ (mem_uc main_arg7 (by decide))).trans (X5_args m ρ c A hA main_arg7 (by decide)),
        (hr _ (mem_uc main_arg8 (by decide))).trans (X5_args m ρ c A hA main_arg8 (by decide)),
        (hr _ (mem_uc main_arg9 (by decide))).trans (X5_args m ρ c A hA main_arg9 (by decide)),
        (hr _ (mem_uc main_arg10 (by decide))).trans (X5_args m ρ c A hA main_arg10 (by decide)),
        (hr _ (mem_uc main_arg11 (by decide))).trans (X5_args m ρ c A hA main_arg11 (by decide))⟩), funext fun g => hz g (.inr (no_unscoped g.2))⟩)

end Cert.Kernel.Pf

end
-- ==== Proof.Layers.lean ====
/- The layer norm and the quantiser of a list of tokens, and the pooled weights, for any number of tokens, documents and
   vocabulary entries: as towers of vector operations, and read at an index. -/
module

public import proofs.«01_k».proof.Proof.Generic

@[expose] public section

noncomputable section

namespace Cert.Generic

open Idealize.ShloMosaic Cert.Spec
open scoped BigOperators

section At
variable {s : Shape} (a : FVec Ideal s .f32) (i : s.Idx)
theorem erf_at : erf a i = FloatOps.erf (F := Ideal) (φ := .f32) (a i) := rfl
theorem sqrt_at : sqrt a i = Ideal.sqrt (a i) := rfl
theorem absf_at : absf a i = FloatOps.absf (F := Ideal) (φ := .f32) (a i) := rfl
theorem log1p_at : log1p a i = Ideal.log1p (a i) := rfl
theorem cmpi_at (q : CmpIPredicate) (x y : IVec s 32) : cmpi q x y i = IntOp.cmpi q (x i) (y i) := rfl
theorem ofBits_at (b : BitVec 32) : (Scalar.ofBits .f32 b : Ideal .f32) = Ideal.ofBits .f32 b := rfl
end At

section Token
variable {p : ℕ} (hcol : (⟨2, ![p, 1]⟩ : Shape).Broadcasts ⟨2, ![p, 768]⟩) (hrow : (⟨2, ![1, 768]⟩ : Shape).Broadcasts ⟨2, ![p, 768]⟩)
  (hred : (⟨2, ![p, 768]⟩ : Shape).Reduces [1] ⟨1, ![p]⟩) (hcast : (⟨1, ![p]⟩ : Shape).ShapeCasts ⟨2, ![p, 1]⟩) (hself : (⟨2, ![1, 768]⟩ : Shape).ShapeCasts ⟨2, ![1, 768]⟩)

/-- The centred activations, from the products `mm`. -/
def gCen (mm : FVec Ideal ⟨2, ![p, 768]⟩ .f32) (xs : FVec Ideal ⟨2, ![p, 1]⟩ .f32) (ws b : FVec Ideal ⟨2, ![1, 768]⟩ .f32) : FVec Ideal ⟨2, ![p, 768]⟩ .f32 :=
  have v7 := broadcastTo ⟨2, ![p, 768]⟩ xs hcol
  have v8 : FVec Ideal ⟨2, ![p, 768]⟩ .f32 := mulf mm v7
  have v10 := shapeCast ⟨2, ![1, 768]⟩ ws hself
  have v11 := broadcastTo ⟨2, ![p, 768]⟩ v10 hrow
  have v12 : FVec Ideal ⟨2, ![p, 768]⟩ .f32 := mulf v8 v11
  have v14 := shapeCast ⟨2, ![1, 768]⟩ b hself
  have v15 := broadcastTo ⟨2, ![p, 768]⟩ v14 hrow
  have v16 : FVec Ideal ⟨2, ![p, 768]⟩ .f32 := addf v12 v15
  have cst_11 : Ideal .f32 := Scalar.ofBits .f32 0x3F000000#32
  have v17 : FVec Ideal ⟨2, ![p, 768]⟩ .f32 := broadcast ⟨2, ![p, 768]⟩ cst_11
  have v18 : FVec Ideal ⟨2, ![p, 768]⟩ .f32 := mulf v17 v16
  have cst_12 : Ideal .f32 := Scalar.ofBits .f32 0x3F3504F3#32
  have v19 : FVec Ideal ⟨2, ![p, 768]⟩ .f32 := broadcast ⟨2, ![p, 768]⟩ cst_12
  have v20 : FVec Ideal ⟨2, ![p, 768]⟩ .f32 := mulf v16 v19
  have v21 : FVec Ideal ⟨2, ![p, 768]⟩ .f32 := erf v20
  have cst_13 : Ideal .f32 := Scalar.ofBits .f32 0x3F800000#32
  have v22 : FVec Ideal ⟨2, ![p, 768]⟩ .f32 := broadcast ⟨2, ![p, 768]⟩ cst_13
  have v23 : FVec Ideal ⟨2, ![p, 768]⟩ .f32 := addf v22 v21
  have v24 : FVec Ideal ⟨2, ![p, 768]⟩ .f32 := mulf v18 v23
  have v25 : FVec Ideal ⟨1, ![p]⟩ .f32 := multiReduction .add [1] ⟨1, ![p]⟩ v24 0x00000000#32 hred (.inl rfl) rfl
  have v26 : FVec Ideal ⟨2, ![p, 1]⟩ .f32 := shapeCast ⟨2, ![p, 1]⟩ v25 hcast
  have cst_15 : Ideal .f32 := Scalar.ofBits .f32 0x44400000#32
  have v27 : FVec Ideal ⟨2, ![p, 1]⟩ .f32 := broadcast ⟨2, ![p, 1]⟩ cst_15
  have v28 : FVec Ideal ⟨2, ![p, 1]⟩ .f32 := divf v26 v27
  have v29 : FVec Ideal ⟨2, ![p, 768]⟩ .f32 := broadcastTo ⟨2, ![p, 768]⟩ v28 hcol
  have v30 : FVec Ideal ⟨2, ![p, 768]⟩ .f32 := subf v24 v29
  v30

theorem gCen_apply (mm xs ws b) (r : Fin p) (j : Fin 768) :
    gCen hcol hrow hred hcast hself mm xs ws b (ix2 r j)
      = centred (fun j => gelu (mm (ix2 r j) * xs (ix2 r 0) * ws (ix2 0 j) + b (ix2 0 j))) j := by
  unfold gCen centred gelu
  simp only [fun x => rowSum x hred, toCol, toRow, spreadCol, spreadRow, spreadDoc, midIota, rowIota, Idealize.ShloMosaic.shapeCast_self, ValueIdx.mulf_apply, ValueIdx.addf_apply, ValueIdx.subf_apply, ValueIdx.divf_apply, ValueIdx.maximumf_apply, ValueIdx.minimumf_apply, ValueIdx.truncf_apply, ValueIdx.broadcast_apply, ValueIdx.cmpf_apply, ValueIdx.select_apply, erf_at, sqrt_at, absf_at, log1p_at, cmpi_at, ofBits_at]

/-- The deviation of each centred row. -/
def gDev (v30 : FVec Ideal ⟨2, ![p, 768]⟩ .f32) : FVec Ideal ⟨2, ![p, 1]⟩ .f32 :=
  have v31 : FVec Ideal ⟨2, ![p, 768]⟩ .f32 := mulf v30 v30
  have v32 : FVec Ideal ⟨1, ![p]⟩ .f32 := multiReduction .add [1] ⟨1, ![p]⟩ v31 0x00000000#32 hred (.inl rfl) rfl
  have v33 : FVec Ideal ⟨2, ![p, 1]⟩ .f32 := shapeCast ⟨2, ![p, 1]⟩ v32 hcast
  have cst_17 : Ideal .f32 := Scalar.ofBits .f32 0x44400000#32
  have v34 : FVec Ideal ⟨2, ![p, 1]⟩ .f32 := broadcast ⟨2, ![p, 1]⟩ cst_17
  have v35 : FVec Ideal ⟨2, ![p, 1]⟩ .f32 := divf v33 v34
  have cst_18 : Ideal .f32 := Scalar.ofBits .f32 0x2B8CBCCC#32
  have v36 : FVec Ideal ⟨2, ![p, 1]⟩ .f32 := broadcast ⟨2, ![p, 1]⟩ cst_18
  have v37 : FVec Ideal ⟨2, ![p, 1]⟩ .f32 := addf v35 v36
  have v38 : FVec Ideal ⟨2, ![p, 1]⟩ .f32 := sqrt v37
  v38

theorem gDev_apply (c) (r : Fin p) : gDev hred hcast c (ix2 r 0) = dev (fun j => c (ix2 r j)) := by
  unfold gDev dev
  simp only [fun x => rowSum x hred, toCol, toRow, spreadCol, spreadRow, spreadDoc, midIota, rowIota, Idealize.ShloMosaic.shapeCast_self, ValueIdx.mulf_apply, ValueIdx.addf_apply, ValueIdx.subf_apply, ValueIdx.divf_apply, ValueIdx.maximumf_apply, ValueIdx.minimumf_apply, ValueIdx.truncf_apply, ValueIdx.broadcast_apply, ValueIdx.cmpf_apply, ValueIdx.select_apply, erf_at, sqrt_at, absf_at, log1p_at, cmpi_at, ofBits_at]

/-- The normalised rows. -/
def gAff (v30 : FVec Ideal ⟨2, ![p, 768]⟩ .f32) (v38 : FVec Ideal ⟨2, ![p, 1]⟩ .f32) (v41 v45 : FVec Ideal ⟨2, ![1, 768]⟩ .f32) : FVec Ideal ⟨2, ![p, 768]⟩ .f32 :=
  have v39 : FVec Ideal ⟨2, ![p, 768]⟩ .f32 := broadcastTo ⟨2, ![p, 768]⟩ v38 hcol
  have v40 : FVec Ideal ⟨2, ![p, 768]⟩ .f32 := divf v30 v39
  have v42 : FVec Ideal ⟨2, ![1, 768]⟩ .f32 := shapeCast ⟨2, ![1, 768]⟩ v41 hself
  have v43 : FVec Ideal ⟨2, ![p, 768]⟩ .f32 := broadcastTo ⟨2, ![p, 768]⟩ v42 hrow
  have v44 : FVec Ideal ⟨2, ![p, 768]⟩ .f32 := mulf v40 v43
  have v46 : FVec Ideal ⟨2, ![1, 768]⟩ .f32 := shapeCast ⟨2, ![1, 768]⟩ v45 hself
  have v47 : FVec Ideal ⟨2, ![p, 768]⟩ .f32 := broadcastTo ⟨2, ![p, 768]⟩ v46 hrow
  have v48 : FVec Ideal ⟨2, ![p, 768]⟩ .f32 := addf v44 v47
  v48

theorem gAff_apply (c σ gam beta) (r : Fin p) (j : Fin 768) :
    gAff hcol hrow hself c σ gam beta (ix2 r j) = affine (fun j => c (ix2 r j)) (σ (ix2 r 0)) (fun j => gam (ix2 0 j)) (fun j => beta (ix2 0 j)) j := by
  unfold gAff affine
  simp only [toCol, toRow, spreadCol, spreadRow, spreadDoc, midIota, rowIota, Idealize.ShloMosaic.shapeCast_self, ValueIdx.mulf_apply, ValueIdx.addf_apply, ValueIdx.subf_apply, ValueIdx.divf_apply, ValueIdx.maximumf_apply, ValueIdx.minimumf_apply, ValueIdx.truncf_apply, ValueIdx.broadcast_apply, ValueIdx.cmpf_apply, ValueIdx.select_apply, erf_at, sqrt_at, absf_at, log1p_at, cmpi_at, ofBits_at]

/-- The scale of each row. -/
def gScale (v48 : FVec Ideal ⟨2, ![p, 768]⟩ .f32) : FVec Ideal ⟨2, ![p, 1]⟩ .f32 :=
  have v49 : FVec Ideal ⟨2, ![p, 768]⟩ .f32 := absf v48
  have v50 : FVec Ideal ⟨1, ![p]⟩ .f32 := multiReduction .maximumf [1] ⟨1, ![p]⟩ v49 0xFF800000#32 hred (.inl rfl) rfl
  have v51 : FVec Ideal ⟨2, ![p, 1]⟩ .f32 := shapeCast ⟨2, ![p, 1]⟩ v50 hcast
  have cst_24 : Ideal .f32 := Scalar.ofBits .f32 0x00000000#32
  have v52 : FVec Ideal ⟨2, ![p, 1]⟩ .f32 := broadcast ⟨2, ![p, 1]⟩ cst_24
  have v53 : IVec ⟨2, ![p, 1]⟩ 1 := cmpf .oeq v51 v52
  have cst_25 : Ideal .f32 := Scalar.ofBits .f32 0x43E00000#32
  have v54 : FVec Ideal ⟨2, ![p, 1]⟩ .f32 := broadcast ⟨2, ![p, 1]⟩ cst_25
  have v55 : FVec Ideal ⟨2, ![p, 1]⟩ .f32 := divf v51 v54
  have cst_26 : Ideal .f32 := Scalar.ofBits .f32 0x3F800000#32
  have v56 : FVec Ideal ⟨2, ![p, 1]⟩ .f32 := broadcast ⟨2, ![p, 1]⟩ cst_26
  have v57 : FVec Ideal ⟨2, ![p, 1]⟩ .f32 := select v53 v56 v55
  v57

theorem gScale_apply (y) (r : Fin p) : gScale hred hcast y (ix2 r 0) = scale (fun j => y (ix2 r j)) := by
  unfold gScale scale amax
  simp only [fun x => rowMax x hred, toCol, toRow, spreadCol, spreadRow, spreadDoc, midIota, rowIota, Idealize.ShloMosaic.shapeCast_self, ValueIdx.mulf_apply, ValueIdx.addf_apply, ValueIdx.subf_apply, ValueIdx.divf_apply, ValueIdx.maximumf_apply, ValueIdx.minimumf_apply, ValueIdx.truncf_apply, ValueIdx.broadcast_apply, ValueIdx.cmpf_apply, ValueIdx.select_apply, erf_at, sqrt_at, absf_at, log1p_at, cmpi_at, ofBits_at]

/-- The codes of each row. -/
def gCode (v48 : FVec Ideal ⟨2, ![p, 768]⟩ .f32) (v57 : FVec Ideal ⟨2, ![p, 1]⟩ .f32) : FVec Ideal ⟨2, ![p, 768]⟩ .fp8e4m3 :=
  have v58 : FVec Ideal ⟨2, ![p, 768]⟩ .f32 := broadcastTo ⟨2, ![p, 768]⟩ v57 hcol
  have v59 : FVec Ideal ⟨2, ![p, 768]⟩ .f32 := divf v48 v58
  have cst_27 : Ideal .f32 := Scalar.ofBits .f32 0xC3E00000#32
  have cst_28 : Ideal .f32 := Scalar.ofBits .f32 0x43E00000#32
  have v60 : FVec Ideal ⟨2, ![p, 768]⟩ .f32 := broadcast ⟨2, ![p, 768]⟩ cst_27
  have v61 : FVec Ideal ⟨2, ![p, 768]⟩ .f32 := maximumf v60 v59
  have v62 : FVec Ideal ⟨2, ![p, 768]⟩ .f32 := broadcast ⟨2, ![p, 768]⟩ cst_28
  have v63 : FVec Ideal ⟨2, ![p, 768]⟩ .f32 := minimumf v62 v61
  have v64 : FVec Ideal ⟨2, ![p, 768]⟩ .fp8e4m3 := truncf .fp8e4m3 v63 (by decide)
  v64

theorem gCode_apply (y sc) (r : Fin p) (j : Fin 768) :
    gCode hcol y sc (ix2 r j) = min cTop (max cBot (Ideal.div (y (ix2 r j)) (sc (ix2 r 0)))) := by
  unfold gCode
  simp only [toCol, toRow, spreadCol, spreadRow, spreadDoc, midIota, rowIota, Idealize.ShloMosaic.shapeCast_self, ValueIdx.mulf_apply, ValueIdx.addf_apply, ValueIdx.subf_apply, ValueIdx.divf_apply, ValueIdx.maximumf_apply, ValueIdx.minimumf_apply, ValueIdx.truncf_apply, ValueIdx.broadcast_apply, ValueIdx.cmpf_apply, ValueIdx.select_apply, erf_at, sqrt_at, absf_at, log1p_at, cmpi_at, ofBits_at]

end Token

section Pool
variable {n s v p : ℕ} (hcol : (⟨2, ![p, 1]⟩ : Shape).Broadcasts ⟨2, ![p, v]⟩) (hrow : (⟨2, ![1, v]⟩ : Shape).Broadcasts ⟨2, ![p, v]⟩) (hself : (⟨2, ![1, v]⟩ : Shape).ShapeCasts ⟨2, ![1, v]⟩)
  (hgrp : (⟨2, ![p, v]⟩ : Shape).ShapeCasts ⟨3, ![n, s, v]⟩) (hio : (⟨3, ![n, s, v]⟩ : Shape).Iotas .tc 32 [1])
  (hself3 : (⟨3, ![n, 1, 1]⟩ : Shape).ShapeCasts ⟨3, ![n, 1, 1]⟩) (hdoc : (⟨3, ![n, 1, 1]⟩ : Shape).Broadcasts ⟨3, ![n, s, v]⟩)
  (hmid : (⟨3, ![n, s, v]⟩ : Shape).Reduces [1] ⟨2, ![n, v]⟩)

/-- The weights of all documents for all vocabulary entries. -/
def gRep (v72 v75 : FVec Ideal ⟨2, ![p, v]⟩ .f32) (v77 : FVec Ideal ⟨2, ![1, v]⟩ .f32) (v83 : IVec ⟨3, ![n, 1, 1]⟩ 32) : FVec Ideal ⟨2, ![n, v]⟩ .f32 :=
  have v76 : FVec Ideal ⟨2, ![p, v]⟩ .f32 := mulf v72 v75
  have v78 : FVec Ideal ⟨2, ![1, v]⟩ .f32 := shapeCast ⟨2, ![1, v]⟩ v77 hself
  have v79 : FVec Ideal ⟨2, ![p, v]⟩ .f32 := broadcastTo ⟨2, ![p, v]⟩ v78 hrow
  have v80 : FVec Ideal ⟨2, ![p, v]⟩ .f32 := addf v76 v79
  have v81 : FVec Ideal ⟨3, ![n, s, v]⟩ .f32 := shapeCast ⟨3, ![n, s, v]⟩ v80 hgrp
  have v82 : IVec ⟨3, ![n, s, v]⟩ 32 := iota .tc ⟨3, ![n, s, v]⟩ 32 [1] hio
  have v84 : IVec ⟨3, ![n, 1, 1]⟩ 32 := shapeCast ⟨3, ![n, 1, 1]⟩ v83 hself3
  have v85 : IVec ⟨3, ![n, s, v]⟩ 32 := broadcastTo ⟨3, ![n, s, v]⟩ v84 hdoc
  have v86 : IVec ⟨3, ![n, s, v]⟩ 1 := cmpi .slt v82 v85
  have cst_45 : Ideal .f32 := Scalar.ofBits .f32 0xFF800000#32
  have v87 : FVec Ideal ⟨3, ![n, s, v]⟩ .f32 := broadcast ⟨3, ![n, s, v]⟩ cst_45
  have v88 : FVec Ideal ⟨3, ![n, s, v]⟩ .f32 := select v86 v81 v87
  have v89 : FVec Ideal ⟨2, ![n, v]⟩ .f32 := multiReduction .maximumf [1] ⟨2, ![n, v]⟩ v88 0xFF800000#32 hmid (.inl rfl) rfl
  have cst_47 : Ideal .f32 := Scalar.ofBits .f32 0x00000000#32
  have v90 : FVec Ideal ⟨2, ![n, v]⟩ .f32 := broadcast ⟨2, ![n, v]⟩ cst_47
  have v91 : FVec Ideal ⟨2, ![n, v]⟩ .f32 := maximumf v89 v90
  have v92 : FVec Ideal ⟨2, ![n, v]⟩ .f32 := log1p v91
  v92

theorem gRep_apply (v72 v75 v77 v83) (i : Fin n) (k : Fin v) (hp : ∀ j : Fin s, i.val * s + j.val < p) :
    gRep hrow hself hgrp hio hself3 hdoc hmid v72 v75 v77 v83 (ix2 i k)
      = weight (Finset.univ.fold max cNegInf fun j : Fin s => Scalar.select (IntOp.cmpi .slt (BitVec.ofNat 32 j.val) (v83 (ix3 i 0 0)))
          (v72 (ix2 ⟨i.val * s + j.val, hp j⟩ k) * v75 (ix2 ⟨i.val * s + j.val, hp j⟩ k) + v77 (ix2 0 k)) cNegInf) := by
  unfold gRep weight
  have e := fun (x : FVec Ideal ⟨2, ![p, v]⟩ .f32) (j : Fin s) => groupRows x hgrp i j k (hp j)
  simp only [fun x => midMax x hmid, fun j : Fin s => midIota hio i j k, toCol, toRow, spreadCol, spreadRow, spreadDoc, midIota, rowIota, Idealize.ShloMosaic.shapeCast_self, ValueIdx.mulf_apply, ValueIdx.addf_apply, ValueIdx.subf_apply, ValueIdx.divf_apply, ValueIdx.maximumf_apply, ValueIdx.minimumf_apply, ValueIdx.truncf_apply, ValueIdx.broadcast_apply, ValueIdx.cmpf_apply, ValueIdx.select_apply, erf_at, sqrt_at, absf_at, log1p_at, cmpi_at, ofBits_at, e]

variable (hred : (⟨2, ![n, v]⟩ : Shape).Reduces [1] ⟨1, ![n]⟩) (hcast : (⟨1, ![n]⟩ : Shape).ShapeCasts ⟨2, ![n, 1]⟩)
  (hredc : (⟨2, ![n, v]⟩ : Shape).Reduces [0] ⟨1, ![v]⟩) (hcastc : (⟨1, ![v]⟩ : Shape).ShapeCasts ⟨2, ![1, v]⟩)
  (hred1 : (⟨2, ![1, v]⟩ : Shape).Reduces [1] ⟨1, ![1]⟩) (hcast1 : (⟨1, ![1]⟩ : Shape).ShapeCasts ⟨2, ![1, 1]⟩)

/-- Each document's sum of weights. -/
def gL1 (v92 : FVec Ideal ⟨2, ![n, v]⟩ .f32) : FVec Ideal ⟨2, ![n, 1]⟩ .f32 :=
  have v113 : FVec Ideal ⟨1, ![n]⟩ .f32 := multiReduction .add [1] ⟨1, ![n]⟩ v92 0x00000000#32 hred (.inl rfl) rfl
  have v114 : FVec Ideal ⟨2, ![n, 1]⟩ .f32 := shapeCast ⟨2, ![n, 1]⟩ v113 hcast
  v114
theorem gL1_apply (r) (i : Fin n) : gL1 hred hcast r (ix2 i 0) = ∑ k : Fin v, r (ix2 i k) := by
  unfold gL1
  simp only [fun x => rowSum x hred, toCol, toRow, spreadCol, spreadRow, spreadDoc, midIota, rowIota, Idealize.ShloMosaic.shapeCast_self, ValueIdx.mulf_apply, ValueIdx.addf_apply, ValueIdx.subf_apply, ValueIdx.divf_apply, ValueIdx.maximumf_apply, ValueIdx.minimumf_apply, ValueIdx.truncf_apply, ValueIdx.broadcast_apply, ValueIdx.cmpf_apply, ValueIdx.select_apply, erf_at, sqrt_at, absf_at, log1p_at, cmpi_at, ofBits_at]

/-- Each entry's sum of weights over 128. -/
def gMean (v92 : FVec Ideal ⟨2, ![n, v]⟩ .f32) : FVec Ideal ⟨2, ![1, v]⟩ .f32 :=
  have v116 : FVec Ideal ⟨1, ![v]⟩ .f32 := multiReduction .add [0] ⟨1, ![v]⟩ v92 0x00000000#32 hredc (.inl rfl) rfl
  have v117 : FVec Ideal ⟨2, ![1, v]⟩ .f32 := shapeCast ⟨2, ![1, v]⟩ v116 hcastc
  have cst_64 : Ideal .f32 := Scalar.ofBits .f32 0x43000000#32
  have v118 : FVec Ideal ⟨2, ![1, v]⟩ .f32 := broadcast ⟨2, ![1, v]⟩ cst_64
  have v119 : FVec Ideal ⟨2, ![1, v]⟩ .f32 := divf v117 v118
  v119
theorem gMean_apply (r) (k : Fin v) : gMean hredc hcastc r (ix2 0 k) = Ideal.div (∑ i : Fin n, r (ix2 i k)) c128 := by
  unfold gMean
  simp only [fun x => colSum x hredc, toCol, toRow, spreadCol, spreadRow, spreadDoc, midIota, rowIota, Idealize.ShloMosaic.shapeCast_self, ValueIdx.mulf_apply, ValueIdx.addf_apply, ValueIdx.subf_apply, ValueIdx.divf_apply, ValueIdx.maximumf_apply, ValueIdx.minimumf_apply, ValueIdx.truncf_apply, ValueIdx.broadcast_apply, ValueIdx.cmpf_apply, ValueIdx.select_apply, erf_at, sqrt_at, absf_at, log1p_at, cmpi_at, ofBits_at]

/-- The sum of the squared means. -/
def gFlops (v119 : FVec Ideal ⟨2, ![1, v]⟩ .f32) : FVec Ideal ⟨2, ![1, 1]⟩ .f32 :=
  have v121 : FVec Ideal ⟨2, ![1, v]⟩ .f32 := mulf v119 v119
  have v122 : FVec Ideal ⟨1, ![1]⟩ .f32 := multiReduction .add [1] ⟨1, ![1]⟩ v121 0x00000000#32 hred1 (.inl rfl) rfl
  have v123 : FVec Ideal ⟨2, ![1, 1]⟩ .f32 := shapeCast ⟨2, ![1, 1]⟩ v122 hcast1
  v123
theorem gFlops_apply (r) : gFlops hred1 hcast1 r (ix2 0 0) = ∑ k : Fin v, r (ix2 0 k) * r (ix2 0 k) := by
  unfold gFlops
  simp only [fun x => rowSum x hred1, toCol, toRow, spreadCol, spreadRow, spreadDoc, midIota, rowIota, Idealize.ShloMosaic.shapeCast_self, ValueIdx.mulf_apply, ValueIdx.addf_apply, ValueIdx.subf_apply, ValueIdx.divf_apply, ValueIdx.maximumf_apply, ValueIdx.minimumf_apply, ValueIdx.truncf_apply, ValueIdx.broadcast_apply, ValueIdx.cmpf_apply, ValueIdx.select_apply, erf_at, sqrt_at, absf_at, log1p_at, cmpi_at, ofBits_at]

/-- Each document's sum of what lies above the largest code. -/
def gSat (v92 : FVec Ideal ⟨2, ![n, v]⟩ .f32) (v93 : Ideal .f32) : FVec Ideal ⟨2, ![n, 1]⟩ .f32 :=
  have cst_55 : Ideal .f32 := Scalar.ofBits .f32 0x437F0000#32
  have v105 : Ideal .f32 := Scalar.mulf cst_55 v93
  have v106 : FVec Ideal ⟨2, ![n, v]⟩ .f32 := broadcast ⟨2, ![n, v]⟩ v105
  have v107 : FVec Ideal ⟨2, ![n, v]⟩ .f32 := subf v92 v106
  have cst_56 : Ideal .f32 := Scalar.ofBits .f32 0x00000000#32
  have v108 : FVec Ideal ⟨2, ![n, v]⟩ .f32 := broadcast ⟨2, ![n, v]⟩ cst_56
  have v109 : FVec Ideal ⟨2, ![n, v]⟩ .f32 := maximumf v107 v108
  have v110 : FVec Ideal ⟨1, ![n]⟩ .f32 := multiReduction .add [1] ⟨1, ![n]⟩ v109 0x00000000#32 hred (.inl rfl) rfl
  have v111 : FVec Ideal ⟨2, ![n, 1]⟩ .f32 := shapeCast ⟨2, ![n, 1]⟩ v110 hcast
  v111
theorem gSat_apply (r) (imp : EReal) (i : Fin n) : gSat hred hcast r imp (ix2 i 0) = ∑ k : Fin v, excess imp (r (ix2 i k)) := by
  unfold gSat excess
  simp only [fun x => rowSum x hred, toCol, toRow, spreadCol, spreadRow, spreadDoc, midIota, rowIota, Idealize.ShloMosaic.shapeCast_self, ValueIdx.mulf_apply, ValueIdx.addf_apply, ValueIdx.subf_apply, ValueIdx.divf_apply, ValueIdx.maximumf_apply, ValueIdx.minimumf_apply, ValueIdx.truncf_apply, ValueIdx.broadcast_apply, ValueIdx.cmpf_apply, ValueIdx.select_apply, erf_at, sqrt_at, absf_at, log1p_at, cmpi_at, ofBits_at]
  rfl

/-- The 8-bit codes. -/
def gImp (v92 : FVec Ideal ⟨2, ![n, v]⟩ .f32) (v93 : Ideal .f32) : IVec ⟨2, ![n, v]⟩ 8 :=
  have v95 : FVec Ideal ⟨2, ![n, v]⟩ .f32 := broadcast ⟨2, ![n, v]⟩ v93
  have v96 : FVec Ideal ⟨2, ![n, v]⟩ .f32 := divf v92 v95
  have v97 : FVec Ideal ⟨2, ![n, v]⟩ .f32 := roundeven v96
  have cst_51 : Ideal .f32 := Scalar.ofBits .f32 0x00000000#32
  have cst_52 : Ideal .f32 := Scalar.ofBits .f32 0x437F0000#32
  have v98 : FVec Ideal ⟨2, ![n, v]⟩ .f32 := broadcast ⟨2, ![n, v]⟩ cst_51
  have v99 : FVec Ideal ⟨2, ![n, v]⟩ .f32 := maximumf v98 v97
  have v100 : FVec Ideal ⟨2, ![n, v]⟩ .f32 := broadcast ⟨2, ![n, v]⟩ cst_52
  have v101 : FVec Ideal ⟨2, ![n, v]⟩ .f32 := minimumf v100 v99
  have v102 : IVec ⟨2, ![n, v]⟩ 32 := fptosi 32 v101
  have v103 : IVec ⟨2, ![n, v]⟩ 8 := trunci 8 v102 (by decide)
  v103
theorem gImp_apply (r) (imp : EReal) (i : Fin n) (k : Fin v) : gImp r imp (ix2 i k) = impact imp (r (ix2 i k)) := rfl

end Pool

end Cert.Generic

end
-- ==== Proof.KernelIdeal.TransformRow.lean ====
/- What the transform computes for one token, from one document's block. -/
module

public import proofs.«01_k».proof.Proof.Layers
public import proofs.«01_k».proof.Proof.KernelIdeal.Transform

@[expose] public section

set_option maxRecDepth 16384

noncomputable section

namespace Cert.KernelIdeal.Pf

open Idealize.ShloMosaic Idealize.ShloMosaic.TpuEff Idealize.SL.Sem Cert.KernelIdeal Cert.KernelIdeal.Gen Cert.Spec Cert.Generic
open Facts
open scoped BigOperators

/-- The transform's steps are the general ones at its extents. -/
theorem cen_eq (v0 : Vec Ideal S1x256x768 .fp8e4m3) (v2 : Vec Ideal S768x768 .fp8e4m3) (v4 : Vec Ideal S1x256x1 .f32) (v8 v12 : Vec Ideal S1x768 .f32) :
    k0_pay5 (F := Ideal) v0 v2 v4 v8 v12 = gCen broadcasts_S256x1_S256x768 broadcasts_S1x768_S256x768 reduces_S256x768_S256 shapeCasts_S256_S256x1 shapeCasts_S1x768_S1x768
      (matmul (φ₁ := .fp8e4m3) (φ₂ := .fp8e4m3) dot_S256x768_S768x768_S256x768_1_0_0_1_n_n none (shapeCast S256x768 v0 shapeCasts_S1x256x768_S256x768) v2 (constant S256x768 .f32 0x00000000#32))
      (shapeCast S256x1 v4 shapeCasts_S1x256x1_S256x1) v8 v12 := rfl
theorem dev_eq (v0 : Vec Ideal S1x256x768 .fp8e4m3) (v2 : Vec Ideal S768x768 .fp8e4m3) (v4 : Vec Ideal S1x256x1 .f32) (v8 v12 : Vec Ideal S1x768 .f32) :
    k0_pay6 (F := Ideal) v0 v2 v4 v8 v12 = gDev reduces_S256x768_S256 shapeCasts_S256_S256x1 (k0_pay5 (F := Ideal) v0 v2 v4 v8 v12) := rfl
theorem aff_eq (v29 : FVec Ideal S256x768 .f32) (v37 : FVec Ideal S256x1 .f32) (v40 v44 : Vec Ideal S1x768 .f32) :
    k0_pay1 (F := Ideal) v29 v37 v40 v44 = gAff broadcasts_S256x1_S256x768 broadcasts_S1x768_S256x768 shapeCasts_S1x768_S1x768 v29 v37 v40 v44 := rfl
theorem scale_eq (v29 : FVec Ideal S256x768 .f32) (v37 : FVec Ideal S256x1 .f32) (v40 v44 : Vec Ideal S1x768 .f32) :
    k0_pay2 (F := Ideal) v29 v37 v40 v44 = gScale reduces_S256x768_S256 shapeCasts_S256_S256x1 (k0_pay1 (F := Ideal) v29 v37 v40 v44) := rfl
theorem code_eq (v29 : FVec Ideal S256x768 .f32) (v37 : FVec Ideal S256x1 .f32) (v40 v44 : Vec Ideal S1x768 .f32) :
    k0_pay3 (F := Ideal) v29 v37 v40 v44 = shapeCast S1x256x768 (gCode broadcasts_S256x1_S256x768 (k0_pay1 (F := Ideal) v29 v37 v40 v44) (k0_pay2 (F := Ideal) v29 v37 v40 v44)) shapeCasts_S256x768_S1x256x768 := rfl

section
variable (v0 : Vec Ideal S1x256x768 .fp8e4m3) (v2 : Vec Ideal S768x768 .fp8e4m3) (v4 : Vec Ideal S1x256x1 .f32) (v8 v12 v40 v44 : Vec Ideal S1x768 .f32)

/-- Token `r` of a document's block, normalised. -/
abbrev tok (r : Fin 256) : Row :=
  token (fun k => v0 (ix3 0 r k)) (v4 (ix3 0 r 0)) (fun k j => v2 (ix2 k j)) (fun j => v8 (ix2 0 j)) (fun j => v12 (ix2 0 j)) (fun j => v40 (ix2 0 j)) (fun j => v44 (ix2 0 j))

theorem mm_apply (r : Fin 256) (j : Fin 768) :
    matmul (F := Ideal) (φ₁ := .fp8e4m3) (φ₂ := .fp8e4m3) dot_S256x768_S768x768_S256x768_1_0_0_1_n_n none (shapeCast S256x768 v0 shapeCasts_S1x256x768_S256x768) v2 (constant S256x768 .f32 0x00000000#32) (ix2 r j)
      = ∑ k : Fin 768, v0 (ix3 0 r k) * v2 (ix2 k j) := by
  pointwise

theorem cen_apply (r : Fin 256) (j : Fin 768) :
    k0_pay5 (F := Ideal) v0 v2 v4 v8 v12 (ix2 r j)
      = centred (fun j => gelu (hid (fun k => v0 (ix3 0 r k)) (v4 (ix3 0 r 0)) (fun k j => v2 (ix2 k j)) (fun j => v8 (ix2 0 j)) (fun j => v12 (ix2 0 j)) j)) j := by
  rw [cen_eq]
  refine (gCen_apply _ _ _ _ _ _ _ _ _ r j).trans ?_
  refine congrFun (congrArg centred (funext fun i => congrArg gelu ?_)) j
  rw [mm_apply]
  exact congrArg (fun z : EReal => (∑ k : Fin 768, v0 (ix3 0 r k) * v2 (ix2 k i)) * z * v8 (ix2 0 i) + v12 (ix2 0 i)) (dropOne v4 _ r 0)

theorem tok_apply (r : Fin 256) (j : Fin 768) :
    k0_pay1 (F := Ideal) (k0_pay5 (F := Ideal) v0 v2 v4 v8 v12) (k0_pay6 (F := Ideal) v0 v2 v4 v8 v12) v40 v44 (ix2 r j) = tok v0 v2 v4 v8 v12 v40 v44 r j := by
  rw [aff_eq]
  refine (gAff_apply _ _ _ _ _ _ _ r j).trans ?_
  have e : (fun j => k0_pay5 (F := Ideal) v0 v2 v4 v8 v12 (ix2 r j)) = _ := funext fun j => cen_apply v0 v2 v4 v8 v12 r j
  have e' : k0_pay6 (F := Ideal) v0 v2 v4 v8 v12 (ix2 r 0) = _ := (congrFun (dev_eq v0 v2 v4 v8 v12) _).trans (gDev_apply _ _ _ r)
  rw [e', e]
  rfl

theorem scale_apply (r : Fin 256) :
    k0_pay2 (F := Ideal) (k0_pay5 (F := Ideal) v0 v2 v4 v8 v12) (k0_pay6 (F := Ideal) v0 v2 v4 v8 v12) v40 v44 (ix2 r 0) = scale (tok v0 v2 v4 v8 v12 v40 v44 r) := by
  rw [scale_eq]
  refine (gScale_apply _ _ _ r).trans ?_
  exact congrArg scale (funext fun j => tok_apply v0 v2 v4 v8 v12 v40 v44 r j)

/-- The transform's two results for token `r`: its codes and its scale. -/
theorem codes_apply (r : Fin 256) (j : Fin 768) :
    k0_pay3 (F := Ideal) (k0_pay5 (F := Ideal) v0 v2 v4 v8 v12) (k0_pay6 (F := Ideal) v0 v2 v4 v8 v12) v40 v44 (ix3 0 r j) = code (tok v0 v2 v4 v8 v12 v40 v44 r) j := by
  rw [code_eq]
  refine (addOne _ _ r j).trans ((gCode_apply _ _ _ r j).trans ?_)
  rw [tok_apply, scale_apply]
  rfl

theorem p4_eq (v29 : FVec Ideal S256x768 .f32) (v37 : FVec Ideal S256x1 .f32) (v40 v44 : Vec Ideal S1x768 .f32) :
    k0_pay4 (F := Ideal) v29 v37 v40 v44 = shapeCast S1x256x1 (k0_pay2 (F := Ideal) v29 v37 v40 v44) shapeCasts_S256x1_S1x256x1 := rfl
theorem scales_apply (r : Fin 256) :
    k0_pay4 (F := Ideal) (k0_pay5 (F := Ideal) v0 v2 v4 v8 v12) (k0_pay6 (F := Ideal) v0 v2 v4 v8 v12) v40 v44 (ix3 0 r 0) = scale (tok v0 v2 v4 v8 v12 v40 v44 r) := by
  rw [p4_eq]
  refine (addOne (a := 256) (b := 1) _ _ r 0).trans ?_
  exact scale_apply v0 v2 v4 v8 v12 v40 v44 r
end

end Cert.KernelIdeal.Pf

end
-- ==== Proof.KernelIdeal.TransformArrays.lean ====
/- The two arrays the transform leaves: every token's codes and scale. -/
module

public import proofs.«01_k».proof.Proof.KernelIdeal.TransformRow
public import Idealize.ShloMosaic.Lib.Pipeline.ValueKit
public import Idealize.ShloMosaic.Lib.Pipeline.Covers

@[expose] public section

set_option maxRecDepth 16384

noncomputable section

namespace Cert.KernelIdeal.Pf

open Idealize.ShloMosaic Idealize.ShloMosaic.TpuEff Idealize.SL.Sem Cert.KernelIdeal Cert.KernelIdeal.Gen Cert.Spec Cert.Generic
open Facts
open scoped BigOperators

open Idealize.ShloMosaic.TcCoe
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

theorem out7_apply (x0 : Vec Ideal S1x256x768 .fp8e4m3) (x1 : Vec Ideal S1x256x1 .f32) (x2 : Vec Ideal S768x768 .fp8e4m3) (x3 x4 x5 x6 : Vec Ideal S1x768 .f32) (r : Fin 256) (j : Fin 768) :
    out0_7 (F := Ideal) x0 x1 x2 x3 x4 x5 x6 (ix3 0 r j) = code (tok x0 x2 x1 x3 x4 x5 x6 r) j := by
  unfold out0_7 k0_pay7 k0_pay8 r0_0 r0_1 r0_2 r0_3
  rw [View.canon_unit_zero hz3, View.ld_unit_zero hz3, View.ld_unit_zero hz2, View.ld_unit_zero hz3, View.ld_unit_zero hz2, View.ld_unit_zero hz2, View.ld_unit_zero hz2, View.ld_unit_zero hz2]
  exact codes_apply x0 x2 x1 x3 x4 x5 x6 r j
theorem out8_apply (x0 : Vec Ideal S1x256x768 .fp8e4m3) (x1 : Vec Ideal S1x256x1 .f32) (x2 : Vec Ideal S768x768 .fp8e4m3) (x3 x4 x5 x6 : Vec Ideal S1x768 .f32) (r : Fin 256) :
    out0_8 (F := Ideal) x0 x1 x2 x3 x4 x5 x6 (ix3 0 r 0) = scale (tok x0 x2 x1 x3 x4 x5 x6 r) := by
  unfold out0_8 k0_pay7 k0_pay8 r0_0 r0_1 r0_2 r0_3
  rw [View.canon_unit_zero hz3, View.ld_unit_zero hz3, View.ld_unit_zero hz2, View.ld_unit_zero hz3, View.ld_unit_zero hz2, View.ld_unit_zero hz2, View.ld_unit_zero hz2, View.ld_unit_zero hz2]
  exact scales_apply x0 x2 x1 x3 x4 x5 x6 r

theorem N0 (t : Fin cfg0.N) : t.val < 128 := lt_of_lt_of_eq t.isLt (show cfg0.N = 128 from N_0)
theorem index0_0 : ∀ t : Fin cfg0.N, win0_0.index t 0 = t.val ∧ win0_0.index t 1 = 0 ∧ win0_0.index t 2 = 0 := by decide +kernel
theorem index0_1 : ∀ t : Fin cfg0.N, win0_1.index t 0 = t.val ∧ win0_1.index t 1 = 0 ∧ win0_1.index t 2 = 0 := by decide +kernel
theorem index0_7 : ∀ t : Fin cfg0.N, win0_7.index t 0 = t.val ∧ win0_7.index t 1 = 0 ∧ win0_7.index t 2 = 0 := by decide +kernel
theorem index0_8 : ∀ t : Fin cfg0.N, win0_8.index t 0 = t.val ∧ win0_8.index t 1 = 0 ∧ win0_8.index t 2 = 0 := by decide +kernel

/-- A point's blocks: document `t`'s codes and scales, and the whole of the parameters. -/
theorem blk0 (c : Dev nD) (t : Fin cfg0.N) (r : Fin 256) (k : Fin 768) : iblk0 V c 0 t (ix3 0 r k) = V c main_arg0 (ix3 ⟨t.val, N0 t⟩ r k) := by
  refine congrArg (V c main_arg0) (funext fun a => Fin.ext ?_)
  refine (Window.rect_emb_val win0_0 t (ix3 0 r k) a).trans ?_
  match a with
  | ⟨0, _⟩ => exact (congrArg (· * 1 + 0) (index0_0 t).1).trans (Nat.mul_one _)
  | ⟨1, _⟩ => exact (congrArg (· * 256 + r.val) (index0_0 t).2.1).trans (by simp)
  | ⟨2, _⟩ => exact (congrArg (· * 768 + k.val) (index0_0 t).2.2).trans (by simp)
theorem blk1 (c : Dev nD) (t : Fin cfg0.N) (r : Fin 256) : iblk0 V c 1 t (ix3 0 r 0) = V c main_v2 (ix3 ⟨t.val, N0 t⟩ r 0) := by
  refine congrArg (V c main_v2) (funext fun a => Fin.ext ?_)
  refine (Window.rect_emb_val win0_1 t (ix3 0 r 0) a).trans ?_
  match a with
  | ⟨0, _⟩ => exact (congrArg (· * 1 + 0) (index0_1 t).1).trans (Nat.mul_one _)
  | ⟨1, _⟩ => exact (congrArg (· * 256 + r.val) (index0_1 t).2.1).trans (by simp)
  | ⟨2, _⟩ => exact congrArg (· * 1 + 0) (index0_1 t).2.2
theorem blk2 (c : Dev nD) (t : Fin cfg0.N) (k j : Fin 768) : iblk0 V c 2 t (ix2 k j) = V c main_arg3 (ix2 k j) := by
  refine congrArg (V c main_arg3) (funext fun a => Fin.ext ?_)
  exact Window.rect_emb_val_of_index_zero win0_2 t a (by match a with | ⟨0, _⟩ => rfl | ⟨1, _⟩ => rfl) _
theorem blk3 (c : Dev nD) (t : Fin cfg0.N) (j : Fin 768) : iblk0 V c 3 t (ix2 0 j) = V c main_v3 (ix2 0 j) := by
  refine congrArg (V c main_v3) (funext fun a => Fin.ext ?_)
  exact Window.rect_emb_val_of_index_zero win0_3 t a (by match a with | ⟨0, _⟩ => rfl | ⟨1, _⟩ => rfl) _
theorem blk4 (c : Dev nD) (t : Fin cfg0.N) (j : Fin 768) : iblk0 V c 4 t (ix2 0 j) = V c main_v4 (ix2 0 j) := by
  refine congrArg (V c main_v4) (funext fun a => Fin.ext ?_)
  exact Window.rect_emb_val_of_index_zero win0_4 t a (by match a with | ⟨0, _⟩ => rfl | ⟨1, _⟩ => rfl) _
theorem blk5 (c : Dev nD) (t : Fin cfg0.N) (j : Fin 768) : iblk0 V c 5 t (ix2 0 j) = V c main_v5 (ix2 0 j) := by
  refine congrArg (V c main_v5) (funext fun a => Fin.ext ?_)
  exact Window.rect_emb_val_of_index_zero win0_5 t a (by match a with | ⟨0, _⟩ => rfl | ⟨1, _⟩ => rfl) _
theorem blk6 (c : Dev nD) (t : Fin cfg0.N) (j : Fin 768) : iblk0 V c 6 t (ix2 0 j) = V c main_v6 (ix2 0 j) := by
  refine congrArg (V c main_v6) (funext fun a => Fin.ext ?_)
  exact Window.rect_emb_val_of_index_zero win0_6 t a (by match a with | ⟨0, _⟩ => rfl | ⟨1, _⟩ => rfl) _

/-- Token `s` of document `d`, normalised, from the arrays the call is given. -/
def tokA (c : Dev nD) (d : Fin 128) (s : Fin 256) : Row :=
  token (fun k => V c main_arg0 (ix3 d s k)) (V c main_v2 (ix3 d s 0)) (fun k j => V c main_arg3 (ix2 k j)) (fun j => V c main_v3 (ix2 0 j)) (fun j => V c main_v4 (ix2 0 j))
    (fun j => V c main_v5 (ix2 0 j)) (fun j => V c main_v6 (ix2 0 j))
theorem tok_eq (c : Dev nD) (t : Fin cfg0.N) (r : Fin 256) :
    tok (iblk0 V c 0 t) (iblk0 V c 2 t) (iblk0 V c 1 t) (iblk0 V c 3 t) (iblk0 V c 4 t) (iblk0 V c 5 t) (iblk0 V c 6 t) r = tokA V c ⟨t.val, N0 t⟩ r := by
  unfold tok tokA
  rw [funext fun k => blk0 V c t r k, blk1 V c t r, funext fun k => funext fun j => blk2 V c t k j, funext fun j => blk3 V c t j, funext fun j => blk4 V c t j, funext fun j => blk5 V c t j, funext fun j => blk6 V c t j]

/-- The codes after the call. -/
theorem codes_array (c : Dev nD) : (dat0 V c).arrAt 7 cfg0.N = fun i => code (tokA V c (i 0) (i 1)) (i 2) := by
  refine (dat0 V c).arrAt_eq_of_covers 7 _ (by decide +kernel) fun t hf y => ?_
  rw [after0_7]
  obtain ⟨r, j, rfl⟩ : ∃ (r : Fin 256) (j : Fin 768), y = ix3 0 r j := ⟨y 1, y 2, funext fun a => by match a with | ⟨0, _⟩ => exact Subsingleton.elim (α := Fin 1) _ _ | ⟨1, _⟩ => rfl | ⟨2, _⟩ => rfl⟩
  have e : ((cfg0.win 7).blk t).view.emb (ix3 0 r j) = ix3 ⟨t.val, N0 t⟩ r j := by
    refine funext fun a => Fin.ext ?_
    refine (Window.rect_emb_val win0_7 t (ix3 0 r j) a).trans ?_
    match a with
    | ⟨0, _⟩ => exact (congrArg (· * 1 + 0) (index0_7 t).1).trans (Nat.mul_one _)
    | ⟨1, _⟩ => exact (congrArg (· * 256 + r.val) (index0_7 t).2.1).trans (by simp)
    | ⟨2, _⟩ => exact (congrArg (· * 768 + j.val) (index0_7 t).2.2).trans (by simp)
  rw [e]
  have e1 := out7_apply (iblk0 V c 0 t) (iblk0 V c 1 t) (iblk0 V c 2 t) (iblk0 V c 3 t) (iblk0 V c 4 t) (iblk0 V c 5 t) (iblk0 V c 6 t) r j
  rw [tok_eq] at e1
  revert e1
  generalize out0_7 (F := Ideal) (iblk0 V c 0 t) (iblk0 V c 1 t) (iblk0 V c 2 t) (iblk0 V c 3 t) (iblk0 V c 4 t) (iblk0 V c 5 t) (iblk0 V c 6 t) = Z
  intro e1
  exact e1
/-- The scales after the call. -/
theorem scales_array (c : Dev nD) : (dat0 V c).arrAt 8 cfg0.N = fun i => scale (tokA V c (i 0) (i 1)) := by
  refine (dat0 V c).arrAt_eq_of_covers 8 _ (by decide +kernel) fun t hf y => ?_
  rw [after0_8]
  obtain ⟨r, rfl⟩ : ∃ (r : Fin 256), y = ix3 0 r 0 := ⟨y 1, funext fun a => by match a with | ⟨0, _⟩ => exact Subsingleton.elim (α := Fin 1) _ _ | ⟨1, _⟩ => rfl | ⟨2, _⟩ => exact Subsingleton.elim (α := Fin 1) _ _⟩
  have e : ((cfg0.win 8).blk t).view.emb (ix3 0 r 0) = ix3 ⟨t.val, N0 t⟩ r 0 := by
    refine funext fun a => Fin.ext ?_
    refine (Window.rect_emb_val win0_8 t (ix3 0 r 0) a).trans ?_
    match a with
    | ⟨0, _⟩ => exact (congrArg (· * 1 + 0) (index0_8 t).1).trans (Nat.mul_one _)
    | ⟨1, _⟩ => exact (congrArg (· * 256 + r.val) (index0_8 t).2.1).trans (by simp)
    | ⟨2, _⟩ => exact congrArg (· * 1 + 0) (index0_8 t).2.2
  rw [e]
  have e1 := out8_apply (iblk0 V c 0 t) (iblk0 V c 1 t) (iblk0 V c 2 t) (iblk0 V c 3 t) (iblk0 V c 4 t) (iblk0 V c 5 t) (iblk0 V c 6 t) r
  rw [tok_eq] at e1
  revert e1
  generalize out0_8 (F := Ideal) (iblk0 V c 0 t) (iblk0 V c 1 t) (iblk0 V c 2 t) (iblk0 V c 3 t) (iblk0 V c 4 t) (iblk0 V c 5 t) (iblk0 V c 6 t) = Z
  intro e1
  exact e1

end Cert.KernelIdeal.Pf

end
-- ==== Proof.KernelIdeal.PoolRow.lean ====
/- What the pool computes for one document and one column of a tile, from the blocks it is given. -/
module

public import proofs.«01_k».proof.Proof.Layers
public import proofs.«01_k».proof.Proof.KernelIdeal.PoolData
public import Idealize.ShloMosaic.Lib.WordCmp
public import Idealize.ShloMosaic.Lib.Pipeline.ValueKit

@[expose] public section

set_option maxRecDepth 16384

noncomputable section

namespace Cert.KernelIdeal.Pf

open Idealize.ShloMosaic Idealize.ShloMosaic.TpuEff Idealize.SL.Sem Cert.KernelIdeal Cert.KernelIdeal.Gen Cert.Spec Cert.Generic
open Facts
open scoped BigOperators

/-- A document's row of best scores, read at a column of the tile. -/
theorem pay8_apply (es bv : Vec Ideal S1x512 .f32) (z : Vec Ideal S1x256x768 .fp8e4m3) (e : Vec Ideal S512x768 .fp8e4m3) (sc : Vec Ideal S1x256x1 .f32) (len : Elt Ideal .i32) (n : Fin 512) :
    k1_pay8 (F := Ideal) es bv z e sc len (ix2 0 n)
      = best len (fun s k => z (ix3 0 s k)) (fun s => sc (ix3 0 s 0)) (fun k => e (ix2 n k)) (es (ix2 0 n)) (bv (ix2 0 n)) := by
  unfold best score cNegInf
  pointwise [k1_pay8]

/-- The weight of a best score; a column beyond the vocabulary has weight 0. -/
theorem pay9_apply (i : grid1.Coords) (m : Vec Ideal S128x512 .f32) (d : Fin 128) (n : Fin 512) :
    k1_pay9 (F := Ideal) i m (ix2 d n)
      = Scalar.select (IntOp.cmpi .slt (BitVec.ofNat 32 (i 0).val * 512#32 + BitVec.ofNat 32 n.val) 30522#32) (weight (m (ix2 d n))) 0 := by
  unfold weight cZero
  pointwise [k1_pay9]
  rfl
theorem pay9_in (i : grid1.Coords) (hi : (i 0).val < 60) (m : Vec Ideal S128x512 .f32) (d : Fin 128) (n : Fin 512) (h : (i 0).val * 512 + n.val < 30522) :
    k1_pay9 (F := Ideal) i m (ix2 d n) = weight (m (ix2 d n)) := by
  rw [pay9_apply, ← BitVec.ofNat_mul, ← BitVec.ofNat_add, (WordCmp.cmpi_slt_ofNat_eq_one_iff (w := 32) (by omega) (by omega)).mpr h]
  rfl
theorem pay9_out (i : grid1.Coords) (hi : (i 0).val < 60) (m : Vec Ideal S128x512 .f32) (d : Fin 128) (n : Fin 512) (h : ¬(i 0).val * 512 + n.val < 30522) :
    k1_pay9 (F := Ideal) i m (ix2 d n) = 0 := by
  rw [pay9_apply, ← BitVec.ofNat_mul, ← BitVec.ofNat_add, (WordCmp.cmpi_slt_ofNat_eq_zero_iff (w := 32) (by omega) (by omega)).mpr h]
  rfl

/-- The scratch array after the loop, read at a document and a column. -/
theorem mxv_apply (len : Vec Ideal S128 .i32) (z : Vec Ideal S128x256x768 .fp8e4m3) (sc : Vec Ideal S128x256x1 .f32) (e : Vec Ideal S512x768 .fp8e4m3) (es bv : Vec Ideal S1x512 .f32)
    (d : Fin 128) (n : Fin 512) :
    mxv (F := Ideal) len z sc e es bv (ix2 d n)
      = best (len (ix1 d)) (fun s k => z (ix3 d s k)) (fun s => sc (ix3 d s 0)) (fun k => e (ix2 n k)) (es (ix2 0 n)) (bv (ix2 0 n)) := by
  have e0 : mxv (F := Ideal) len z sc e es bv (ix2 d n) = mxRow (F := Ideal) len z sc e es bv (tripOf d) (ix2 0 n) := rfl
  rw [e0]; unfold mxRow; rw [pay8_apply]
  have e1 : ∀ s k, View.ld z (Rect.unit (s := S128x256x768) (k1_off1 (tripOf d)) S1x256x768.size (k1_off1_inb (tripOf d))) (ix3 0 s k) = z (ix3 d s k) := fun s k => by
    rw [View.ld_apply]
    refine congrArg z (funext fun a => Fin.ext ?_)
    match a with
    | ⟨0, _⟩ => exact congrArg (· + 1 * 0) (congrFun (k1_off1_eq (tripOf d)) 0)
    | ⟨1, _⟩ => exact (congrArg (· + 1 * s.val) (congrFun (k1_off1_eq (tripOf d)) 1)).trans (by simp)
    | ⟨2, _⟩ => exact (congrArg (· + 1 * k.val) (congrFun (k1_off1_eq (tripOf d)) 2)).trans (by simp)
  have e2 : ∀ s, View.ld sc (Rect.unit (s := S128x256x1) (k1_off2 (tripOf d)) S1x256x1.size (k1_off2_inb (tripOf d))) (ix3 0 s 0) = sc (ix3 d s 0) := fun s => by
    rw [View.ld_apply]
    refine congrArg sc (funext fun a => Fin.ext ?_)
    match a with
    | ⟨0, _⟩ => exact congrArg (· + 1 * 0) (congrFun (k1_off2_eq (tripOf d)) 0)
    | ⟨1, _⟩ => exact (congrArg (· + 1 * s.val) (congrFun (k1_off2_eq (tripOf d)) 1)).trans (by simp)
    | ⟨2, _⟩ => exact congrArg (· + 1 * 0) (congrFun (k1_off2_eq (tripOf d)) 2)
  have e3 : View.ld len (Rect.unit (s := S128) (k1_off3 (tripOf d)) S1.size (k1_off3_inb (tripOf d))) (Shape.Idx.first (numel1_S1.symm ▸ Nat.one_pos)) = len (ix1 d) := by
    rw [View.ld_apply]
    refine congrArg len (funext fun a => Fin.ext ?_)
    match a with
    | ⟨0, _⟩ => exact congrArg (· + 1 * 0) (congrFun (k1_off3_eq (tripOf d)) 0)
  rw [e3, funext fun s => funext fun k => e1 s k, funext e2]

end Cert.KernelIdeal.Pf

end
-- ==== Proof.KernelIdeal.PoolExact.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KernelIdeal.PoolData

public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! A staged tile restated on the part that is moved: the tile is its own filler. -/
theorem give1_7 (c : Dev nD) (t : Fin cfg1.N) (X : Vec F S128x512 .f32) :
    (owns (c : Thread nD τ) (ms1_7 t) fullShare X : sProp 𝕄)
      ⊢ iprop(∃ d, owns (c : Thread nD τ) (stage1_7 (cfg1.slots t 7)) fullShare
          ((win1 7).fill (α := Elt F .f32) (grid1.coords t) d ((win1 7).cut (α := Elt F .f32) (grid1.coords t) X))) := by
  have h : (win1 7).fill (α := Elt F .f32) (grid1.coords t) X ((win1 7).cut (α := Elt F .f32) (grid1.coords t) X) = X :=
    Pipeline.Window.fill_cut (win1 7) (α := Elt F .f32) (grid1.coords t) X
  iintro H; iexists X; rw [h]; try iexact H
theorem give1_9 (c : Dev nD) (t : Fin cfg1.N) (X : Vec F S1x512 .f32) :
    (owns (c : Thread nD τ) (ms1_9 t) fullShare X : sProp 𝕄)
      ⊢ iprop(∃ d, owns (c : Thread nD τ) (stage1_9 (cfg1.slots t 9)) fullShare
          ((win1 9).fill (α := Elt F .f32) (grid1.coords t) d ((win1 9).cut (α := Elt F .f32) (grid1.coords t) X))) := by
  have h : (win1 9).fill (α := Elt F .f32) (grid1.coords t) X ((win1 9).cut (α := Elt F .f32) (grid1.coords t) X) = X :=
    Pipeline.Window.fill_cut (win1 9) (α := Elt F .f32) (grid1.coords t) X
  iintro H; iexists X; rw [h]; try iexact H
theorem give1_11 (c : Dev nD) (t : Fin cfg1.N) (X : Vec F S128x512 .i8) :
    (owns (c : Thread nD τ) (ms1_11 t) fullShare X : sProp 𝕄)
      ⊢ iprop(∃ d, owns (c : Thread nD τ) (stage1_11 (cfg1.slots t 11)) fullShare
          ((win1 11).fill (α := Elt F .i8) (grid1.coords t) d ((win1 11).cut (α := Elt F .i8) (grid1.coords t) X))) := by
  have h : (win1 11).fill (α := Elt F .i8) (grid1.coords t) X ((win1 11).cut (α := Elt F .i8) (grid1.coords t) X) = X :=
    Pipeline.Window.fill_cut (win1 11) (α := Elt F .i8) (grid1.coords t) X
  iintro H; iexists X; rw [h]; try iexact H

/-! # The pooling call's body, exactly

    Under the hypothesis that a tile of the representation does not depend on what the staging buffers hold past the
    arrays' end (`TailFree`), the body at every point meets the proof data `dat1`. -/

/-- The representation's tile is the same whatever the staging buffers hold past the arrays' end. -/
def TailFree (c : Dev nD) : Prop := ∀ (t : Fin cfg1.N) d4 d5 d6,
  k1_pay9 (grid1.coords t) (mxv (iblk1 V c 0 t) (iblk1 V c 2 t) (iblk1 V c 3 t) (win1_4.fill (grid1.coords t) d4 (iblk1 V c 4 t)) (win1_5.fill (grid1.coords t) d5 (iblk1 V c 5 t)) (win1_6.fill (grid1.coords t) d6 (iblk1 V c 6 t))) = rep1 V c t

set_option maxHeartbeats 2400000 in
/-- The obligation's body at any point: the library's statement, the windows one by one. -/
theorem body_obligation1 (c : Dev nD) (hT : TailFree V c) :
    Pipeline.BodyObligationLoose (dat1 (F := F) V c) (defs₀ (F := F)) Variants.none () Set.univ := fun t => by
  rw [bigSep_W1, bigSep_W1, defs₀_row1]
  simp only
  rw [show (dat1 V c).Φ t.succ = (dat1 V c).Φ t.castSucc from rfl,
    show (dat1 V c).owesAt () t.succ = (dat1 V c).owesAt () t.castSucc from rfl]
  rw [show (dat1 V c).Φ t.castSucc = Pipeline.ΦA spec1 c from rfl, PhiA1_eq]
  simp only [before1_0, before1_1, before1_2, before1_3, before1_4, before1_5, before1_6]
  rw [after1_0, after1_1, after1_2, after1_3, after1_4, after1_5, after1_6, after1_7, after1_8, after1_9, after1_10, after1_11, after1_12]
  have hN : t.val < 60 := lt_of_lt_of_eq t.isLt (show cfg1.N = 60 from N_1)
  by_cases h0 : t.val % 60 = 0
  · rw [accL1_first V c t h0, accF1_first V c t h0, accS1_first V c t h0]
    iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hR := hT t d4 d5 d6
    iapply (sound_pool_A c Set.univ (grid1.coords t) _ _ _ _ _ _ _ _ _ _ _ _ _ _ _ _ _ _ _ _ _ _ _ _ _ _ _ _ ((hcond1_0 t).mpr h0)
      (iblk1 V c 0 t) (iblk1 V c 1 t) (iblk1 V c 2 t) (iblk1 V c 3 t) (win1_4.fill (grid1.coords t) d4 (iblk1 V c 4 t)) (win1_5.fill (grid1.coords t) d5 (iblk1 V c 5 t)) (win1_6.fill (grid1.coords t) d6 (iblk1 V c 6 t)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    rw [pay10_eq, pay11_eq, hR]
    iintro ⟨H0, H1, H2, H3, H4, H5, H6, H7, H8, H9, H10, H11, H12, HS0⟩
    isplitl [HR0 HR1 HR2 HR3 HR4 HR5 HR6 HR7 HR8 HR9 HR10 HR11 HR12 HS0 Hg]
    · isplitl [HR0 HR1 HR2 HR3 HR4 HR5 HR6 HR7 HR8 HR9 HR10 HR11 HR12 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        iexact HS0
      iexact Hg
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (ms1_4 t) fullShare (win1_4.fill (grid1.coords t) d4 (win1_4.cut (grid1.coords t) (emb1 V c t)))
      unfold emb1; rw [Pipeline.Window.cut_fill]
    isplitl [H5]
    · iexists d5
      change _ ⊢ owns (c : Thread nD τ) (ms1_5 t) fullShare (win1_5.fill (grid1.coords t) d5 (win1_5.cut (grid1.coords t) (escl1 V c t)))
      unfold escl1; rw [Pipeline.Window.cut_fill]
    isplitl [H6]
    · iexists d6
      change _ ⊢ owns (c : Thread nD τ) (ms1_6 t) fullShare (win1_6.fill (grid1.coords t) d6 (win1_6.cut (grid1.coords t) (bias1 V c t)))
      unfold bias1; rw [Pipeline.Window.cut_fill]
    isplitl [H7]
    · iapply (give1_7 c t _); iexact H7
    isplitl [H8]; · iexact H8
    isplitl [H9]
    · iapply (give1_9 c t _); iexact H9
    isplitl [H10]; · iexact H10
    isplitl [H11]
    · iapply (give1_11 c t _); iexact H11
    iexact H12
  · rw [accL1_next V c t h0, accF1_next V c t h0, accS1_next V c t h0]
    simp only [before1_8_B V c t h0, before1_10_B V c t h0, before1_12_B V c t h0]
    iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hR := hT t d4 d5 d6
    iapply (sound_pool_B c Set.univ (grid1.coords t) _ _ _ _ _ _ _ _ _ _ _ _ _ _ _ _ _ _ _ _ _ _ _ _ _ _ _ _ (fun h => h0 ((hcond1_0 t).mp h))
      (iblk1 V c 0 t) (iblk1 V c 1 t) (iblk1 V c 2 t) (iblk1 V c 3 t) (win1_4.fill (grid1.coords t) d4 (iblk1 V c 4 t)) (win1_5.fill (grid1.coords t) d5 (iblk1 V c 5 t)) (win1_6.fill (grid1.coords t) d6 (iblk1 V c 6 t)) (accL1 V c (t.val - 1) (Nat.lt_of_le_of_lt (Nat.sub_le _ _) t.isLt)) (accF1 V c (t.val - 1) (Nat.lt_of_le_of_lt (Nat.sub_le _ _) t.isLt)) (accS1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexists _; iexact H9
    isplitl [H10]; · iexact H10
    isplitl [H11]; · iexists _; iexact H11
    isplitl [H12]; · iexact H12
    isplitl [HS0]; · iexact HS0
    rw [pay10_eq, pay11_eq, hR]
    iintro ⟨H0, H1, H2, H3, H4, H5, H6, H7, H8, H9, H10, H11, H12, HS0⟩
    isplitl [HR0 HR1 HR2 HR3 HR4 HR5 HR6 HR7 HR8 HR9 HR10 HR11 HR12 HS0 Hg]
    · isplitl [HR0 HR1 HR2 HR3 HR4 HR5 HR6 HR7 HR8 HR9 HR10 HR11 HR12 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        iexact HS0
      iexact Hg
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (ms1_4 t) fullShare (win1_4.fill (grid1.coords t) d4 (win1_4.cut (grid1.coords t) (emb1 V c t)))
      unfold emb1; rw [Pipeline.Window.cut_fill]
    isplitl [H5]
    · iexists d5
      change _ ⊢ owns (c : Thread nD τ) (ms1_5 t) fullShare (win1_5.fill (grid1.coords t) d5 (win1_5.cut (grid1.coords t) (escl1 V c t)))
      unfold escl1; rw [Pipeline.Window.cut_fill]
    isplitl [H6]
    · iexists d6
      change _ ⊢ owns (c : Thread nD τ) (ms1_6 t) fullShare (win1_6.fill (grid1.coords t) d6 (win1_6.cut (grid1.coords t) (bias1 V c t)))
      unfold bias1; rw [Pipeline.Window.cut_fill]
    isplitl [H7]
    · iapply (give1_7 c t _); iexact H7
    isplitl [H8]; · iexact H8
    isplitl [H9]
    · iapply (give1_9 c t _); iexact H9
    isplitl [H10]; · iexact H10
    isplitl [H11]
    · iapply (give1_11 c t _); iexact H11
    iexact H12

end Cert.KernelIdeal.Pf

end
-- ==== Proof.KernelIdeal.PoolTile.lean ====
/- A tile of the pool, read from the arrays: which entries of the arrays its blocks are, and that nothing past the arrays' end matters. -/
module

public import proofs.«01_k».proof.Proof.KernelIdeal.PoolRow
public import proofs.«01_k».proof.Proof.KernelIdeal.PoolExact
public import Idealize.ShloMosaic.Lib.Pipeline.ValueKit

@[expose] public section

set_option maxRecDepth 16384

noncomputable section

namespace Cert.KernelIdeal.Pf

open Idealize.ShloMosaic Idealize.ShloMosaic.TpuEff Idealize.SL.Sem Cert.KernelIdeal Cert.KernelIdeal.Gen Cert.Spec Cert.Generic
open Facts
open scoped BigOperators

open Idealize.ShloMosaic.TcCoe
open Idealize.ShloMosaic.Pipeline (Dat Cfg Window)

variable (V : (c : Dev nD) → (b : Ref sig .tc) → Buf (Elt Ideal) ((c : Thread nD τ).loc b))

theorem N1 (t : Fin cfg1.N) : t.val < 60 := lt_of_lt_of_eq t.isLt (show cfg1.N = 60 from N_1)
theorem coord1 : ∀ t : Fin cfg1.N, (grid1.coords t 0).val = t.val := by decide +kernel
theorem index4 : ∀ t : Fin cfg1.N, win1_4.index t 0 = t.val ∧ win1_4.index t 1 = 0 := by decide +kernel
theorem index5 : ∀ t : Fin cfg1.N, win1_5.index t 0 = 0 ∧ win1_5.index t 1 = t.val := by decide +kernel
theorem index6 : ∀ t : Fin cfg1.N, win1_6.index t 0 = 0 ∧ win1_6.index t 1 = t.val := by decide +kernel
theorem xsize4 : ∀ t : Fin cfg1.N, win1_4.xsize (grid1.coords t) 0 = min 512 (30524 - t.val * 512) ∧ win1_4.xsize (grid1.coords t) 1 = 768 := by decide +kernel
theorem xsize5 : ∀ t : Fin cfg1.N, win1_5.xsize (grid1.coords t) 0 = 1 ∧ win1_5.xsize (grid1.coords t) 1 = min 512 (30522 - t.val * 512) := by decide +kernel
theorem xsize6 : ∀ t : Fin cfg1.N, win1_6.xsize (grid1.coords t) 0 = 1 ∧ win1_6.xsize (grid1.coords t) 1 = min 512 (30522 - t.val * 512) := by decide +kernel

/-- The codes' tile at a vocabulary entry: the array's row, whatever fills the tile out. -/
theorem fill4 (c : Dev nD) (t : Fin cfg1.N) (f) (n : Fin 512) (k : Fin 768) (h : t.val * 512 + n.val < 30522) :
    win1_4.fill (grid1.coords t) f (iblk1 V c 4 t) (ix2 n k) = V c main_v1 (ix2 ⟨t.val * 512 + n.val, by omega⟩ k) := by
  let j : (win1_4.xblock (grid1.coords t)).Idx := fun a => match a with
    | ⟨0, _⟩ => ⟨n.val, by show n.val < win1_4.xsize (grid1.coords t) 0; rw [(xsize4 t).1]; omega⟩
    | ⟨1, _⟩ => ⟨k.val, by show k.val < win1_4.xsize (grid1.coords t) 1; rw [(xsize4 t).2]; omega⟩
  have hj : ix2 n k = win1_4.xinj (grid1.coords t) j := funext fun a => by
    match a with
    | ⟨0, _⟩ => rfl
    | ⟨1, _⟩ => rfl
  rw [hj, Window.fill_xinj]
  refine congrArg (V c main_v1) (funext fun a => Fin.ext ?_)
  refine (Window.rect_emb_val win1_4 t j a).trans ?_
  match a with
  | ⟨0, _⟩ => exact congrArg (· * 512 + n.val) (index4 t).1
  | ⟨1, _⟩ => exact (congrArg (· * 768 + k.val) (index4 t).2).trans (by simp)

/-- The embedding scales' tile at a vocabulary entry. -/
theorem fill5 (c : Dev nD) (t : Fin cfg1.N) (f) (n : Fin 512) (h : t.val * 512 + n.val < 30522) :
    win1_5.fill (grid1.coords t) f (iblk1 V c 5 t) (ix2 0 n) = V c main_v9 (ix2 0 ⟨t.val * 512 + n.val, h⟩) := by
  let j : (win1_5.xblock (grid1.coords t)).Idx := fun a => match a with
    | ⟨0, _⟩ => ⟨0, by show 0 < win1_5.xsize (grid1.coords t) 0; rw [(xsize5 t).1]; omega⟩
    | ⟨1, _⟩ => ⟨n.val, by show n.val < win1_5.xsize (grid1.coords t) 1; rw [(xsize5 t).2]; omega⟩
  have hj : ix2 0 n = win1_5.xinj (grid1.coords t) j := funext fun a => by
    match a with
    | ⟨0, _⟩ => rfl
    | ⟨1, _⟩ => rfl
  rw [hj, Window.fill_xinj]
  refine congrArg (V c main_v9) (funext fun a => Fin.ext ?_)
  refine (Window.rect_emb_val win1_5 t j a).trans ?_
  match a with
  | ⟨0, _⟩ => exact congrArg (· * 1 + 0) (index5 t).1
  | ⟨1, _⟩ => exact congrArg (· * 512 + n.val) (index5 t).2

/-- The bias' tile at a vocabulary entry. -/
theorem fill6 (c : Dev nD) (t : Fin cfg1.N) (f) (n : Fin 512) (h : t.val * 512 + n.val < 30522) :
    win1_6.fill (grid1.coords t) f (iblk1 V c 6 t) (ix2 0 n) = V c main_v10 (ix2 0 ⟨t.val * 512 + n.val, h⟩) := by
  let j : (win1_6.xblock (grid1.coords t)).Idx := fun a => match a with
    | ⟨0, _⟩ => ⟨0, by show 0 < win1_6.xsize (grid1.coords t) 0; rw [(xsize6 t).1]; omega⟩
    | ⟨1, _⟩ => ⟨n.val, by show n.val < win1_6.xsize (grid1.coords t) 1; rw [(xsize6 t).2]; omega⟩
  have hj : ix2 0 n = win1_6.xinj (grid1.coords t) j := funext fun a => by
    match a with
    | ⟨0, _⟩ => rfl
    | ⟨1, _⟩ => rfl
  rw [hj, Window.fill_xinj]
  refine congrArg (V c main_v10) (funext fun a => Fin.ext ?_)
  refine (Window.rect_emb_val win1_6 t j a).trans ?_
  match a with
  | ⟨0, _⟩ => exact congrArg (· * 1 + 0) (index6 t).1
  | ⟨1, _⟩ => exact congrArg (· * 512 + n.val) (index6 t).2

/-- The whole blocks: the lengths, the impact scale, the codes and the scales. -/
theorem whole0 (c : Dev nD) (t : Fin cfg1.N) (d : Fin 128) : iblk1 V c 0 t (ix1 d) = V c main_arg2 (ix1 d) := by
  refine congrArg (V c main_arg2) (funext fun a => Fin.ext ?_)
  exact Window.rect_emb_val_of_index_zero win1_0 t a (by match a with | ⟨0, _⟩ => rfl) _
theorem whole1 (c : Dev nD) (t : Fin cfg1.N) : impOf (iblk1 V c 1 t) = V c main_v8 (ix1 0) := by
  refine congrArg (V c main_v8) (funext fun a => ?_)
  match a with
  | ⟨0, _⟩ => exact Subsingleton.elim (α := Fin 1) _ _
theorem whole2 (c : Dev nD) (t : Fin cfg1.N) (d : Fin 128) (s : Fin 256) (k : Fin 768) : iblk1 V c 2 t (ix3 d s k) = V c main_v7_0 (ix3 d s k) := by
  refine congrArg (V c main_v7_0) (funext fun a => Fin.ext ?_)
  exact Window.rect_emb_val_of_index_zero win1_2 t a (by match a with | ⟨0, _⟩ => rfl | ⟨1, _⟩ => rfl | ⟨2, _⟩ => rfl) _
theorem whole3 (c : Dev nD) (t : Fin cfg1.N) (d : Fin 128) (s : Fin 256) : iblk1 V c 3 t (ix3 d s 0) = V c main_v7_1 (ix3 d s 0) := by
  refine congrArg (V c main_v7_1) (funext fun a => Fin.ext ?_)
  exact Window.rect_emb_val_of_index_zero win1_3 t a (by match a with | ⟨0, _⟩ => rfl | ⟨1, _⟩ => rfl | ⟨2, _⟩ => rfl) _

/-- The weight of document `d` for vocabulary entry `v`, from the arrays the call is given. -/
def wt (c : Dev nD) (d : Fin 128) (v : Fin 30522) : EReal :=
  weight (best (V c main_arg2 (ix1 d)) (fun s k => V c main_v7_0 (ix3 d s k)) (fun s => V c main_v7_1 (ix3 d s 0))
    (fun k => V c main_v1 (ix2 ⟨v.val, by omega⟩ k)) (V c main_v9 (ix2 0 v)) (V c main_v10 (ix2 0 v)))

theorem tile_in (c : Dev nD) (t : Fin cfg1.N) (f4 f5 f6) (d : Fin 128) (n : Fin 512) (h : t.val * 512 + n.val < 30522) :
    k1_pay9 (F := Ideal) (grid1.coords t) (mxv (iblk1 V c 0 t) (iblk1 V c 2 t) (iblk1 V c 3 t) (win1_4.fill (grid1.coords t) f4 (iblk1 V c 4 t)) (win1_5.fill (grid1.coords t) f5 (iblk1 V c 5 t)) (win1_6.fill (grid1.coords t) f6 (iblk1 V c 6 t))) (ix2 d n)
      = wt V c d ⟨t.val * 512 + n.val, h⟩ := by
  rw [pay9_in _ (by rw [coord1]; exact N1 t) _ _ _ (by rw [coord1]; exact h), mxv_apply]
  unfold wt
  rw [whole0, fill5 V c t f5 n h, fill6 V c t f6 n h, funext fun s => funext fun k => whole2 V c t d s k, funext fun s => whole3 V c t d s, funext fun k => fill4 V c t f4 n k h]
theorem tile_out (c : Dev nD) (t : Fin cfg1.N) (m) (d : Fin 128) (n : Fin 512) (h : ¬t.val * 512 + n.val < 30522) :
    k1_pay9 (F := Ideal) (grid1.coords t) m (ix2 d n) = 0 :=
  pay9_out _ (by rw [coord1]; exact N1 t) _ _ _ (by rw [coord1]; exact h)

/-- A tile of weights. -/
theorem rep1_in (c : Dev nD) (t : Fin cfg1.N) (d : Fin 128) (n : Fin 512) (h : t.val * 512 + n.val < 30522) :
    rep1 V c t (ix2 d n) = wt V c d ⟨t.val * 512 + n.val, h⟩ := tile_in V c t _ _ _ d n h
theorem rep1_out (c : Dev nD) (t : Fin cfg1.N) (d : Fin 128) (n : Fin 512) (h : ¬t.val * 512 + n.val < 30522) :
    rep1 V c t (ix2 d n) = 0 := tile_out c t _ d n h

/-- A tile does not depend on what fills it out. -/
theorem tailFree (c : Dev nD) : TailFree V c := fun t f4 f5 f6 => funext fun i => by
  obtain ⟨d, n, rfl⟩ : ∃ d n, i = ix2 d n := ⟨i 0, i 1, funext fun a => by match a with | ⟨0, _⟩ => rfl | ⟨1, _⟩ => rfl⟩
  by_cases h : t.val * 512 + n.val < 30522
  · rw [tile_in V c t f4 f5 f6 d n h, rep1_in V c t d n h]
  · rw [tile_out c t _ d n h, rep1_out V c t d n h]

end Cert.KernelIdeal.Pf

end
-- ==== Proof.Sums.lean ====
/- A sum over the entries of an array, collected tile by tile: the places beyond the array count as 0. -/
module

public import Mathlib.Algebra.BigOperators.Fin
public import Mathlib.Data.EReal.Basic

@[expose] public section

noncomputable section

namespace Cert.Spec

open scoped BigOperators

/-- `f`, continued by 0. -/
def pad {N : ℕ} (f : Fin N → EReal) (v : ℕ) : EReal := if h : v < N then f ⟨v, h⟩ else 0
theorem pad_in {N : ℕ} (f : Fin N → EReal) (v : ℕ) (h : v < N) : pad f v = f ⟨v, h⟩ := dif_pos h
theorem pad_out {N : ℕ} (f : Fin N → EReal) (v : ℕ) (h : ¬v < N) : pad f v = 0 := dif_neg h

theorem sum_pad {N : ℕ} (f : Fin N → EReal) (M : ℕ) (h : N ≤ M) : ∑ v ∈ Finset.range M, pad f v = ∑ v : Fin N, f v := by
  obtain ⟨k, rfl⟩ := Nat.exists_eq_add_of_le h
  rw [Finset.sum_range_add, Finset.sum_eq_zero (s := Finset.range k) fun x _ => pad_out f (N + x) (by omega), add_zero, ← Fin.sum_univ_eq_sum_range]
  exact Finset.sum_congr rfl fun v _ => pad_in f v.val v.isLt

theorem next_tile (g : ℕ → EReal) (w n : ℕ) :
    ∑ v ∈ Finset.range ((n + 1) * w), g v = ∑ v ∈ Finset.range (n * w), g v + ∑ i : Fin w, g (n * w + i.val) := by
  rw [Nat.add_mul, Nat.one_mul, Finset.sum_range_add, ← Fin.sum_univ_eq_sum_range (fun i => g (n * w + i))]

end Cert.Spec

end
-- ==== Proof.KernelIdeal.PoolSums.lean ====
/- What one tile adds to the pool's running sums, and the running sums after each tile. -/
module

public import proofs.«01_k».proof.Proof.KernelIdeal.PoolTile
public import proofs.«01_k».proof.Proof.Sums
public import Idealize.ShloMosaic.Lib.Pipeline.ValueKit
public import Idealize.ShloMosaic.Lib.Pipeline.Covers

@[expose] public section

set_option maxRecDepth 16384

noncomputable section

namespace Cert.KernelIdeal.Pf

open Idealize.ShloMosaic Idealize.ShloMosaic.TpuEff Idealize.SL.Sem Cert.KernelIdeal Cert.KernelIdeal.Gen Cert.Spec Cert.Generic
open Facts
open scoped BigOperators

open Idealize.ShloMosaic.TcCoe
open Idealize.ShloMosaic.Pipeline (Dat Cfg Window)

variable (V : (c : Dev nD) → (b : Ref sig .tc) → Buf (Elt Ideal) ((c : Thread nD τ).loc b))

/-! What one tile's sums and codes are, entry by entry. -/
theorem mean_tile (r : FVec Ideal S128x512 .f32) (n : Fin 512) : k1_pay1 (F := Ideal) r (ix2 0 n) = Ideal.div (∑ d : Fin 128, r (ix2 d n)) c128 := by
  unfold c128
  pointwise [k1_pay1]
theorem l1_tile (r : FVec Ideal S128x512 .f32) (y : Vec Ideal S128x1 .f32) (d : Fin 128) : k1_pay5 (F := Ideal) r y (ix2 d 0) = y (ix2 d 0) + ∑ n : Fin 512, r (ix2 d n) := by
  pointwise [k1_pay5]
theorem sat_tile (e z : FVec Ideal S128x512 .f32) (y : Vec Ideal S128x1 .f32) (d : Fin 128) : k1_pay6 (F := Ideal) e z y (ix2 d 0) = y (ix2 d 0) + ∑ n : Fin 512, max (e (ix2 d n)) (z (ix2 d n)) := by
  pointwise [k1_pay6]
theorem flops_tile (r : FVec Ideal S128x512 .f32) (y : Vec Ideal S1x1 .f32) :
    k1_pay7 (F := Ideal) r y (ix2 0 0) = y (ix2 0 0) + ∑ n : Fin 512, k1_pay1 (F := Ideal) r (ix2 0 n) * k1_pay1 (F := Ideal) r (ix2 0 n) := by
  pointwise [k1_pay7]
theorem zero2 (d : Fin 128) : k1_pay2 (F := Ideal) (ix2 d 0) = 0 := by pointwise [k1_pay2]
theorem zero3 (d : Fin 128) : k1_pay3 (F := Ideal) (ix2 d 0) = 0 := by pointwise [k1_pay3]
theorem zero4 : k1_pay4 (F := Ideal) (ix2 0 0) = 0 := by pointwise [k1_pay4]
theorem zero12 (d : Fin 128) (n : Fin 512) : k1_pay12 (F := Ideal) (ix2 d n) = cZero := rfl
theorem codesOf_apply (s : EReal) (r : FVec Ideal S128x512 .f32) (d : Fin 128) (n : Fin 512) : codesOf (F := Ideal) s r (ix2 d n) = impact s (r (ix2 d n)) := rfl
theorem excessOf_apply (s : EReal) (r : FVec Ideal S128x512 .f32) (d : Fin 128) (n : Fin 512) : excessOf (F := Ideal) s r (ix2 d n) = r (ix2 d n) - c255 * s := rfl

/-- The mean weight of vocabulary entry `v`. -/
def mn (c : Dev nD) (v : Fin 30522) : EReal := Ideal.div (∑ d : Fin 128, wt V c d v) c128

theorem rep1_pad (c : Dev nD) (t : Fin cfg1.N) (d : Fin 128) (n : Fin 512) : rep1 V c t (ix2 d n) = pad (wt V c d) (t.val * 512 + n.val) := by
  by_cases h : t.val * 512 + n.val < 30522
  · rw [rep1_in V c t d n h, pad_in _ _ h]
  · rw [rep1_out V c t d n h, pad_out _ _ h]
theorem c128_eq : c128 = ((128 : ℝ) : EReal) := by
  simp [c128, Ideal.ofBits, Ideal.ieee, -EReal.coe_mul]; norm_num
theorem c128_div : Ideal.div 0 c128 = 0 := by
  rw [c128_eq]
  simp [Ideal.div]
theorem mean1_pad (c : Dev nD) (t : Fin cfg1.N) (n : Fin 512) : k1_pay1 (F := Ideal) (rep1 V c t) (ix2 0 n) = pad (mn V c) (t.val * 512 + n.val) := by
  rw [mean_tile]
  by_cases h : t.val * 512 + n.val < 30522
  · rw [pad_in _ _ h]; unfold mn
    rw [funext fun d => rep1_in V c t d n h]
  · rw [pad_out _ _ h, funext fun d => rep1_out V c t d n h, Finset.sum_const_zero, c128_div]

/-! The running sums after point `n`. -/
theorem accL1_eq (c : Dev nD) (d : Fin 128) : ∀ (n : ℕ) (h : n < cfg1.N), accL1 V c n h (ix2 d 0) = ∑ v ∈ Finset.range ((n + 1) * 512), pad (wt V c d) v
  | 0, h => by
    rw [next_tile, accL1, l1_tile, zero2, funext fun m => rep1_pad V c ⟨0, h⟩ d m]
    simp
  | n + 1, h => by
    rw [next_tile, accL1, l1_tile, accL1_eq c d n, funext fun m => rep1_pad V c ⟨n + 1, h⟩ d m]
theorem accF1_eq (c : Dev nD) : ∀ (n : ℕ) (h : n < cfg1.N), accF1 V c n h (ix2 0 0) = ∑ v ∈ Finset.range ((n + 1) * 512), pad (mn V c) v * pad (mn V c) v
  | 0, h => by
    rw [next_tile, accF1, flops_tile, zero4]
    simp only [mean1_pad]
    simp
  | n + 1, h => by
    rw [next_tile, accF1, flops_tile, accF1_eq c n]
    simp only [mean1_pad]

/-- The impact scale. -/
abbrev imp (c : Dev nD) : EReal := V c main_v8 (ix1 0)
/-- A place beyond the vocabulary adds nothing to the saturated sum when 0 is not above the largest code. -/
theorem excess_pad (c : Dev nD) (h0 : excess (imp V c) 0 = 0) (t : Fin cfg1.N) (d : Fin 128) (n : Fin 512) :
    max (excessOf (F := Ideal) (impOf (iblk1 V c 1 t)) (rep1 V c t) (ix2 d n)) (k1_pay12 (F := Ideal) (ix2 d n))
      = pad (fun v => excess (imp V c) (wt V c d v)) (t.val * 512 + n.val) := by
  rw [excessOf_apply, zero12, whole1]
  change excess (imp V c) (rep1 V c t (ix2 d n)) = _
  by_cases h : t.val * 512 + n.val < 30522
  · rw [rep1_in V c t d n h, pad_in _ _ h]
  · rw [rep1_out V c t d n h, pad_out _ _ h, h0]
theorem accS1_eq (c : Dev nD) (h0 : excess (imp V c) 0 = 0) (d : Fin 128) :
    ∀ (n : ℕ) (h : n < cfg1.N), accS1 V c n h (ix2 d 0) = ∑ v ∈ Finset.range ((n + 1) * 512), pad (fun v => excess (imp V c) (wt V c d v)) v
  | 0, h => by
    rw [next_tile, accS1, sat_tile, zero3, funext fun m => excess_pad V c h0 ⟨0, h⟩ d m]
    simp
  | n + 1, h => by
    rw [next_tile, accS1, sat_tile, accS1_eq c h0 d n, funext fun m => excess_pad V c h0 ⟨n + 1, h⟩ d m]

end Cert.KernelIdeal.Pf

end
-- ==== Proof.KernelIdeal.PoolArrays.lean ====
/- The six arrays the pool leaves: the weights, their sums and means, and their 8-bit codes, from the arrays it is given. -/
module

public import proofs.«01_k».proof.Proof.KernelIdeal.PoolSums
public import proofs.«01_k».proof.Proof.Sums
public import Idealize.ShloMosaic.Lib.Pipeline.ValueKit
public import Idealize.ShloMosaic.Lib.Pipeline.Covers

@[expose] public section

set_option maxRecDepth 16384

noncomputable section

namespace Cert.KernelIdeal.Pf

open Idealize.ShloMosaic Idealize.ShloMosaic.TpuEff Idealize.SL.Sem Cert.KernelIdeal Cert.KernelIdeal.Gen Cert.Spec Cert.Generic
open Facts
open scoped BigOperators

open Idealize.ShloMosaic.TcCoe
open Idealize.ShloMosaic.Pipeline (Dat Cfg Window)

variable (V : (c : Dev nD) → (b : Ref sig .tc) → Buf (Elt Ideal) ((c : Thread nD τ).loc b))

theorem index7 : ∀ t : Fin cfg1.N, win1_7.index t 0 = 0 ∧ win1_7.index t 1 = t.val := by decide +kernel
theorem xsize7 : ∀ t : Fin cfg1.N, win1_7.xsize (grid1.coords t) 0 = 128 ∧ win1_7.xsize (grid1.coords t) 1 = min 512 (30522 - t.val * 512) := by decide +kernel
theorem index9 : ∀ t : Fin cfg1.N, win1_9.index t 0 = 0 ∧ win1_9.index t 1 = t.val := by decide +kernel
theorem xsize9 : ∀ t : Fin cfg1.N, win1_9.xsize (grid1.coords t) 0 = 1 ∧ win1_9.xsize (grid1.coords t) 1 = min 512 (30522 - t.val * 512) := by decide +kernel
theorem index11 : ∀ t : Fin cfg1.N, win1_11.index t 0 = 0 ∧ win1_11.index t 1 = t.val := by decide +kernel
theorem xsize11 : ∀ t : Fin cfg1.N, win1_11.xsize (grid1.coords t) 0 = 128 ∧ win1_11.xsize (grid1.coords t) 1 = min 512 (30522 - t.val * 512) := by decide +kernel

/-- The weights after the call. -/
theorem rep_array (c : Dev nD) : (dat1 V c).arrAt 7 cfg1.N = fun i => wt V c (i 0) (i 1) := by
  refine (dat1 V c).arrAt_eq_of_covers 7 _ (by decide +kernel) fun t hf y => ?_
  rw [after1_7]
  have y0 : (y 0).val < 128 := lt_of_lt_of_eq (y 0).isLt (xsize7 t).1
  have y1 : (y 1).val < min 512 (30522 - t.val * 512) := lt_of_lt_of_eq (y 1).isLt (xsize7 t).2
  have h : t.val * 512 + (y 1).val < 30522 := by omega
  have h5 : (y 1).val < 512 := by omega
  have hx : (cfg1.win 7).xinj (cfg1.grid.coords t) y = ix2 (⟨(y 0).val, y0⟩ : Fin 128) (⟨(y 1).val, h5⟩ : Fin 512) := funext fun a => by
    match a with
    | ⟨0, _⟩ => rfl
    | ⟨1, _⟩ => rfl
  have e : ((cfg1.win 7).blk t).view.emb y = ix2 (⟨(y 0).val, y0⟩ : Fin 128) (⟨t.val * 512 + (y 1).val, h⟩ : Fin 30522) := by
    refine funext fun a => Fin.ext ?_
    refine (Window.rect_emb_val win1_7 t y a).trans ?_
    match a with
    | ⟨0, _⟩ => exact (congrArg (· * 128 + (y 0).val) (index7 t).1).trans (by simp)
    | ⟨1, _⟩ => exact congrArg (· * 512 + (y 1).val) (index7 t).2
  rw [e]
  have e1 := rep1_in V c t ⟨(y 0).val, y0⟩ ⟨(y 1).val, h5⟩ h
  rw [← hx] at e1
  revert e1
  generalize rep1 V c t = Z
  intro e1
  exact e1

/-- The mean weights after the call. -/
theorem mean_array (c : Dev nD) : (dat1 V c).arrAt 9 cfg1.N = fun i => mn V c (i 1) := by
  refine (dat1 V c).arrAt_eq_of_covers 9 _ (by decide +kernel) fun t hf y => ?_
  rw [after1_9]
  have y0 : (y 0).val < 1 := lt_of_lt_of_eq (y 0).isLt (xsize9 t).1
  have y1 : (y 1).val < min 512 (30522 - t.val * 512) := lt_of_lt_of_eq (y 1).isLt (xsize9 t).2
  have h : t.val * 512 + (y 1).val < 30522 := by omega
  have h5 : (y 1).val < 512 := by omega
  have hx : (cfg1.win 9).xinj (cfg1.grid.coords t) y = ix2 (⟨(y 0).val, y0⟩ : Fin 1) (⟨(y 1).val, h5⟩ : Fin 512) := funext fun a => by
    match a with
    | ⟨0, _⟩ => rfl
    | ⟨1, _⟩ => rfl
  have e : ((cfg1.win 9).blk t).view.emb y = ix2 (⟨(y 0).val, y0⟩ : Fin 1) (⟨t.val * 512 + (y 1).val, h⟩ : Fin 30522) := by
    refine funext fun a => Fin.ext ?_
    refine (Window.rect_emb_val win1_9 t y a).trans ?_
    match a with
    | ⟨0, _⟩ => exact (congrArg (· * 1 + (y 0).val) (index9 t).1).trans (by simp)
    | ⟨1, _⟩ => exact congrArg (· * 512 + (y 1).val) (index9 t).2
  rw [e]
  have e1 := mean1_pad V c t ⟨(y 1).val, h5⟩
  rw [pad_in _ _ h, show (0 : Fin 1) = ⟨(y 0).val, y0⟩ from Subsingleton.elim _ _] at e1
  rw [← hx] at e1
  revert e1
  generalize k1_pay1 (F := Ideal) (rep1 V c t) = Z
  intro e1
  exact e1

/-- The weights' 8-bit codes after the call. -/
theorem sat_codes_array (c : Dev nD) : (dat1 V c).arrAt 11 cfg1.N = fun i => impact (imp V c) (wt V c (i 0) (i 1)) := by
  refine (dat1 V c).arrAt_eq_of_covers 11 _ (by decide +kernel) fun t hf y => ?_
  rw [after1_11]
  have y0 : (y 0).val < 128 := lt_of_lt_of_eq (y 0).isLt (xsize11 t).1
  have y1 : (y 1).val < min 512 (30522 - t.val * 512) := lt_of_lt_of_eq (y 1).isLt (xsize11 t).2
  have h : t.val * 512 + (y 1).val < 30522 := by omega
  have h5 : (y 1).val < 512 := by omega
  have hx : (cfg1.win 11).xinj (cfg1.grid.coords t) y = ix2 (⟨(y 0).val, y0⟩ : Fin 128) (⟨(y 1).val, h5⟩ : Fin 512) := funext fun a => by
    match a with
    | ⟨0, _⟩ => rfl
    | ⟨1, _⟩ => rfl
  have e : ((cfg1.win 11).blk t).view.emb y = ix2 (⟨(y 0).val, y0⟩ : Fin 128) (⟨t.val * 512 + (y 1).val, h⟩ : Fin 30522) := by
    refine funext fun a => Fin.ext ?_
    refine (Window.rect_emb_val win1_11 t y a).trans ?_
    match a with
    | ⟨0, _⟩ => exact (congrArg (· * 128 + (y 0).val) (index11 t).1).trans (by simp)
    | ⟨1, _⟩ => exact congrArg (· * 512 + (y 1).val) (index11 t).2
  rw [e]
  have e1 : codesOf (F := Ideal) (impOf (iblk1 V c 1 t)) (rep1 V c t) (ix2 ⟨(y 0).val, y0⟩ ⟨(y 1).val, h5⟩) = impact (imp V c) (wt V c ⟨(y 0).val, y0⟩ ⟨t.val * 512 + (y 1).val, h⟩) := by
    rw [codesOf_apply, rep1_in V c t _ _ h, whole1]
  rw [← hx] at e1
  revert e1
  generalize codesOf (F := Ideal) (impOf (iblk1 V c 1 t)) (rep1 V c t) = Z
  intro e1
  exact e1

/-- The last grid point. -/
def last1 : Fin cfg1.N := ⟨59, by decide +kernel⟩
/-- The sums of the weights after the call. -/
theorem l1_array (c : Dev nD) : (dat1 V c).arrAt 8 cfg1.N = fun i => ∑ v : Fin 30522, wt V c (i 0) v := by
  refine (dat1 V c).arrAt_eq_of_after_last 8 last1 (by decide +kernel) _ fun y => ?_
  rw [after1_8]
  obtain ⟨d, rfl⟩ : ∃ d : Fin 128, y = ix2 d 0 := ⟨y 0, funext fun a => by match a with | ⟨0, _⟩ => rfl | ⟨1, _⟩ => exact Subsingleton.elim (α := Fin 1) _ _⟩
  have e1 := accL1_eq V c d last1.val last1.isLt
  rw [show (last1.val + 1) * 512 = 60 * 512 from rfl, sum_pad _ _ (by norm_num)] at e1
  revert e1
  generalize accL1 V c last1.val last1.isLt = Z
  intro e1
  exact e1

theorem pad_sq (f : Fin 30522 → EReal) (v : ℕ) : pad f v * pad f v = pad (fun v => f v * f v) v := by
  by_cases h : v < 30522
  · rw [pad_in _ _ h, pad_in _ _ h]
  · rw [pad_out _ _ h, pad_out _ _ h, mul_zero]
/-- The sum of the squared means after the call. -/
theorem flops_array (c : Dev nD) : (dat1 V c).arrAt 10 cfg1.N = fun _ => ∑ v : Fin 30522, mn V c v * mn V c v := by
  refine (dat1 V c).arrAt_eq_of_after_last 10 last1 (by decide +kernel) _ fun y => ?_
  rw [after1_10]
  obtain rfl : y = ix2 (0 : Fin 1) (0 : Fin 1) := funext fun a => by match a with | ⟨0, _⟩ => exact Subsingleton.elim (α := Fin 1) _ _ | ⟨1, _⟩ => exact Subsingleton.elim (α := Fin 1) _ _
  have e1 := accF1_eq V c last1.val last1.isLt
  rw [show (last1.val + 1) * 512 = 60 * 512 from rfl, Finset.sum_congr rfl fun v _ => pad_sq _ v, sum_pad _ _ (by norm_num)] at e1
  revert e1
  generalize accF1 V c last1.val last1.isLt = Z
  intro e1
  exact e1

/-- The sums of what lies above the largest code after the call. -/
theorem excess_array (c : Dev nD) (h0 : excess (imp V c) 0 = 0) : (dat1 V c).arrAt 12 cfg1.N = fun i => ∑ v : Fin 30522, excess (imp V c) (wt V c (i 0) v) := by
  refine (dat1 V c).arrAt_eq_of_after_last 12 last1 (by decide +kernel) _ fun y => ?_
  rw [after1_12]
  obtain ⟨d, rfl⟩ : ∃ d : Fin 128, y = ix2 d 0 := ⟨y 0, funext fun a => by match a with | ⟨0, _⟩ => rfl | ⟨1, _⟩ => exact Subsingleton.elim (α := Fin 1) _ _⟩
  have e1 := accS1_eq V c h0 d last1.val last1.isLt
  rw [show (last1.val + 1) * 512 = 60 * 512 from rfl, sum_pad _ _ (by norm_num)] at e1
  revert e1
  generalize accS1 V c last1.val last1.isLt = Z
  intro e1
  exact e1

end Cert.KernelIdeal.Pf

end
-- ==== Proof.KernelIdeal.Results.lean ====
/- The eight results of the two calls together, from the arguments. -/
module

public import proofs.«01_k».proof.Proof.KernelIdeal.Inputs
public import proofs.«01_k».proof.Proof.KernelIdeal.TransformArrays
public import proofs.«01_k».proof.Proof.KernelIdeal.PoolArrays

@[expose] public section

set_option maxRecDepth 16384

noncomputable section

namespace Cert.KernelIdeal.Pf

open Idealize.ShloMosaic Idealize.ShloMosaic.TpuEff Idealize.SL.Sem Cert.KernelIdeal Cert.KernelIdeal.Gen Cert.Spec Cert.Generic
open Facts
open scoped BigOperators

open Idealize.ShloMosaic.TcCoe
open Idealize.ShloMosaic.Pipeline (Dat Cfg Window)

variable (m : (ℓ : Loc nD τ sig) → Buf (Elt Ideal) ℓ) (ρ : Dev nD → PrngReg)

/-- The transform's tokens. -/
theorem tokA_args (c : Dev nD) (d : Fin 128) (s : Fin 256) : tokA (V1 m ρ) c d s = (args m c).tok d s := by
  unfold tokA Args.tok
  rw [in_arg0, in_arg3, in_v2, funext fun j => in_v3 m ρ c j, funext fun j => in_v4 m ρ c j, funext fun j => in_v5 m ρ c j, funext fun j => in_v6 m ρ c j]
  rfl
/-- The codes and the scales the transform leaves. -/
theorem codes_args (c : Dev nD) (d : Fin 128) (s : Fin 256) (k : Fin 768) : (dat0 (V1 m ρ) c).arrAt 7 cfg0.N (ix3 d s k) = code ((args m c).tok d s) k := by
  rw [codes_array]
  exact congrFun (congrArg code (tokA_args m ρ c d s)) k
theorem scales_args (c : Dev nD) (d : Fin 128) (s : Fin 256) : (dat0 (V1 m ρ) c).arrAt 8 cfg0.N (ix3 d s 0) = scale ((args m c).tok d s) := by
  rw [scales_array]
  exact congrArg scale (tokA_args m ρ c d s)
theorem in_v7_0 (c : Dev nD) : V3 m ρ c main_v7_0 = (dat0 (V1 m ρ) c).arrAt 7 cfg0.N :=
  (W3_of m ρ c main_v7_0 (by decide +kernel)).trans (W2_arr m ρ c 7)
theorem in_v7_1 (c : Dev nD) : V3 m ρ c main_v7_1 = (dat0 (V1 m ρ) c).arrAt 8 cfg0.N :=
  (W3_of m ρ c main_v7_1 (by decide +kernel)).trans (W2_arr m ρ c 8)

/-- The weights, their means and the impact scale. -/
theorem wt_args (c : Dev nD) (d : Fin 128) (v : Fin 30522) : wt (V3 m ρ) c d v = (args m c).wt d v := by
  unfold wt Args.wt
  rw [in_arg2, in_v7_0, in_v7_1, in_v9, in_v10, funext fun k => in_v1 m ρ c v k, funext fun s => funext fun k => codes_args m ρ c d s k, funext fun s => scales_args m ρ c d s]
  rfl
theorem mn_args (c : Dev nD) (v : Fin 30522) : mn (V3 m ρ) c v = (args m c).mean v := by
  unfold mn Args.mean
  rw [funext fun d => wt_args m ρ c d v]
theorem imp_args (c : Dev nD) : imp (V3 m ρ) c = (args m c).imp := in_v8 m ρ c

/-! The eight results. -/
theorem result0 (c : Dev nD) : W5 m ρ c (Proc.devRef .tc main_v11_0) = fun i => (args m c).wt (i 0) (i 1) := by
  refine (W5_of m ρ c main_v11_0 (by decide +kernel)).trans ((W4_arr m ρ c 7).trans ?_)
  rw [rep_array]
  exact funext fun i => wt_args m ρ c (i 0) (i 1)
theorem result1 (c : Dev nD) : W5 m ρ c (Proc.devRef .tc main_v12) = fun i => (args m c).l1 (i 0) := by
  refine (host_v12 (W4 m ρ c)).trans (funext fun i => ?_)
  rw [show W4 m ρ c (Proc.devRef .tc main_v11_1) = _ from W4_arr m ρ c 8, l1_array]
  obtain ⟨d, rfl⟩ : ∃ d : Fin 128, i = ix1 d := ⟨i 0, funext fun a => by match a with | ⟨0, _⟩ => rfl⟩
  refine (unCol _ _ d).trans ?_
  exact (Finset.sum_congr rfl fun v _ => wt_args m ρ c d v : (∑ v : Fin 30522, wt (V3 m ρ) c d v) = ∑ v : Fin 30522, (args m c).wt d v)
theorem result2 (c : Dev nD) : W5 m ρ c (Proc.devRef .tc main_v13) = fun i => (args m c).mean (i 0) := by
  refine (host_v13 (W4 m ρ c)).trans (funext fun i => ?_)
  rw [show W4 m ρ c (Proc.devRef .tc main_v11_2) = _ from W4_arr m ρ c 9, mean_array]
  obtain ⟨d, rfl⟩ : ∃ d : Fin 30522, i = ix1 d := ⟨i 0, funext fun a => by match a with | ⟨0, _⟩ => rfl⟩
  refine (unRow _ _ d).trans ?_
  exact mn_args m ρ c d
theorem result3 (c : Dev nD) : W5 m ρ c (Proc.devRef .tc main_v14) = fun _ => (args m c).flops := by
  refine (host_v14 (W4 m ρ c)).trans (funext fun i => ?_)
  rw [show W4 m ρ c (Proc.devRef .tc main_v11_3) = _ from W4_arr m ρ c 10, flops_array]
  refine (unOne _ _ i).trans ?_
  exact (Finset.sum_congr rfl fun v _ => congrArg (fun z => z * z) (mn_args m ρ c v) : (∑ v : Fin 30522, mn (V3 m ρ) c v * mn (V3 m ρ) c v) = ∑ v : Fin 30522, (args m c).mean v * (args m c).mean v)
theorem result4 (c : Dev nD) : W5 m ρ c (Proc.devRef .tc main_v7_0) = fun i => code ((args m c).tok (i 0) (i 1)) (i 2) := by
  refine (W5_of m ρ c main_v7_0 (by decide +kernel)).trans ((W4_of m ρ c main_v7_0 (by decide +kernel)).trans ((in_v7_0 m ρ c).trans ?_))
  rw [codes_array]
  exact funext fun i => congrFun (congrArg code (tokA_args m ρ c (i 0) (i 1))) (i 2)
theorem result5 (c : Dev nD) : W5 m ρ c (Proc.devRef .tc main_v15) = fun i => scale ((args m c).tok (i 0) (i 1)) := by
  refine (host_v15 (W4 m ρ c)).trans (funext fun i => ?_)
  rw [show W4 m ρ c (Proc.devRef .tc main_v7_1) = _ from (W4_of m ρ c main_v7_1 (by decide +kernel)).trans (in_v7_1 m ρ c), scales_array]
  obtain ⟨d, s, rfl⟩ : ∃ (d : Fin 128) (s : Fin 256), i = ix2 d s := ⟨i 0, i 1, funext fun a => by match a with | ⟨0, _⟩ => rfl | ⟨1, _⟩ => rfl⟩
  refine (unLast _ _ d s).trans ?_
  exact congrArg scale (tokA_args m ρ c d s)
theorem result6 (c : Dev nD) : W5 m ρ c (Proc.devRef .tc main_v11_4) = fun i => impact (args m c).imp ((args m c).wt (i 0) (i 1)) := by
  refine (W5_of m ρ c main_v11_4 (by decide +kernel)).trans ((W4_arr m ρ c 11).trans ?_)
  rw [sat_codes_array, imp_args]
  exact funext fun i => congrArg (impact (args m c).imp) (wt_args m ρ c (i 0) (i 1))
theorem result7 (c : Dev nD) (h : 0 ≤ (args m c).imp) : W5 m ρ c (Proc.devRef .tc main_v16) = fun i => (args m c).sat (i 0) := by
  refine (host_v16 (W4 m ρ c)).trans (funext fun i => ?_)
  rw [show W4 m ρ c (Proc.devRef .tc main_v11_5) = _ from W4_arr m ρ c 12, excess_array (V3 m ρ) c (by rw [imp_args]; exact excess_zero _ h), imp_args]
  obtain ⟨d, rfl⟩ : ∃ d : Fin 128, i = ix1 d := ⟨i 0, funext fun a => by match a with | ⟨0, _⟩ => rfl⟩
  refine (unCol _ _ d).trans ?_
  exact (Finset.sum_congr rfl fun v _ => congrArg (excess (args m c).imp) (wt_args m ρ c d v) : (∑ v : Fin 30522, excess (args m c).imp (wt (V3 m ρ) c d v)) = ∑ v : Fin 30522, excess (args m c).imp ((args m c).wt d v))

end Cert.KernelIdeal.Pf

end
-- ==== Proof.KernelIdeal.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KernelIdeal.Boundaries
public import proofs.«01_k».proof.Proof.KernelIdeal.PoolExact

public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-! # The run: what every buffer holds at the end -/

/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)
/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 (hT : ∀ c, TailFree (V3 m ρ) c) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c (hT c)
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-! ## @main as segments, and the launch -/

/-- @main's 5 segments in order: a host segment per stretch from its boundary's contents, a region per pallas_call. -/
abbrev segs (hT : ∀ c, TailFree (V3 m ρ) c) : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ hT),
    .host (hseg hostOps2 hostOps2_sub hostOps2_fresh (W4 m ρ)) ]
/-- @main IS the run of the segments: `Gen.main_chain`, then the segments' run against that chain by the kernel's
    definitional check (`chain_rfl`). -/
theorem main_run (hT : ∀ c, TailFree (V3 m ρ) c) (c : Dev nD) : main (F := F) c = Pipeline.Seg.run (segs m ρ hT) := (main_chain c).trans (by chain_rfl)

/-- The TensorCore has no unscoped semaphore. -/
theorem no_unscoped : ∀ sm : SemLoc sig, sm.isScoped .tc = true := by decide

set_option backward.isDefEq.respectTransparency.types false in
/-- THE RUN.  If the representation's tiles do not depend on what lies past the arrays' end, every execution ends,
    nothing faulting, with every unscoped buffer at `W5` and every semaphore at zero. -/
theorem run (hT : ∀ c, TailFree (V3 m ρ) c) : θ_run defs (onTc (τ := τ) (main (F := F))) ⟨m, fun _ => 0, ρ⟩ (fun r => (∀ (c : Dev nD) (b : Ref sig .tc),
      ¬ (Proc.devRef .tc b : DevRef τ sig).isScoped → r.2.mem ((c.tc : Thread nD τ).loc b) = W5 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ hT)
    (fun c Q => by rw [main_run m ρ hT c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c _ (mem_uc b hb), funext fun g => hz g (.inr (no_unscoped g.2))⟩)

/-- The arguments end as they began. -/
theorem frame (hT : ∀ c, TailFree (V3 m ρ) c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.1 c main_arg0 (by decide)).trans (W5_main_arg0 m ρ c),
    (h.1 c main_arg1 (by decide)).trans (W5_main_arg1 m ρ c),
    (h.1 c main_arg2 (by decide)).trans (W5_main_arg2 m ρ c),
    (h.1 c main_arg3 (by decide)).trans (W5_main_arg3 m ρ c),
    (h.1 c main_arg4 (by decide)).trans (W5_main_arg4 m ρ c),
    (h.1 c main_arg5 (by decide)).trans (W5_main_arg5 m ρ c),
    (h.1 c main_arg6 (by decide)).trans (W5_main_arg6 m ρ c),
    (h.1 c main_arg7 (by decide)).trans (W5_main_arg7 m ρ c),
    (h.1 c main_arg8 (by decide)).trans (W5_main_arg8 m ρ c),
    (h.1 c main_arg9 (by decide)).trans (W5_main_arg9 m ρ c),
    (h.1 c main_arg10 (by decide)).trans (W5_main_arg10 m ρ c),
    (h.1 c main_arg11 (by decide)).trans (W5_main_arg11 m ρ c)⟩, h.2⟩) (run m ρ hT)

end Cert.KernelIdeal.Pf

end
-- ==== Proof.KernelIdeal.Values.lean ====
/- What the two calls together leave in the eight results, and that the arguments end as they began. -/
module

public import proofs.«01_k».proof.Proof.KernelIdeal.Results
public import proofs.«01_k».proof.Proof.KernelIdeal.Run

@[expose] public section

set_option maxRecDepth 16384

noncomputable section

namespace Cert.KernelIdeal.Pf

open Idealize.ShloMosaic Idealize.ShloMosaic.TpuEff Idealize.SL.Sem Cert.KernelIdeal Cert.KernelIdeal.Gen Cert.Spec Cert.Generic
open Idealize.ShloMosaic.TcCoe

variable (m : (ℓ : Loc nD τ sig) → Buf (Elt Ideal) ℓ) (ρ : Dev nD → PrngReg)

/-- Every execution of the kernel ends with seven results as the arguments determine them, the eighth too where the
    impact scale is not negative, and with the arguments unchanged. -/
theorem values : θ_run defs (onTc (τ := τ) (main (F := Ideal))) ⟨m, fun _ => 0, ρ⟩ (fun r => ∀ c : Dev nD,
      (r.2.mem ((c.tc : Thread nD τ).loc main_v11_0) = (fun i => (args m c).wt (i 0) (i 1))
      ∧ r.2.mem ((c.tc : Thread nD τ).loc main_v12) = (fun i => (args m c).l1 (i 0))
      ∧ r.2.mem ((c.tc : Thread nD τ).loc main_v13) = (fun i => (args m c).mean (i 0))
      ∧ r.2.mem ((c.tc : Thread nD τ).loc main_v14) = (fun _ => (args m c).flops)
      ∧ r.2.mem ((c.tc : Thread nD τ).loc main_v7_0) = (fun i => code ((args m c).tok (i 0) (i 1)) (i 2))
      ∧ r.2.mem ((c.tc : Thread nD τ).loc main_v15) = (fun i => scale ((args m c).tok (i 0) (i 1)))
      ∧ r.2.mem ((c.tc : Thread nD τ).loc main_v11_4) = (fun i => impact (args m c).imp ((args m c).wt (i 0) (i 1)))
      ∧ (0 ≤ (args m c).imp → r.2.mem ((c.tc : Thread nD τ).loc main_v16) = (fun i => (args m c).sat (i 0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨⟨(h.1.1 c main_v11_0 (by decide)).trans (result0 m ρ c),
      (h.1.1 c main_v12 (by decide)).trans (result1 m ρ c),
      (h.1.1 c main_v13 (by decide)).trans (result2 m ρ c),
      (h.1.1 c main_v14 (by decide)).trans (result3 m ρ c),
      (h.1.1 c main_v7_0 (by decide)).trans (result4 m ρ c),
      (h.1.1 c main_v15 (by decide)).trans (result5 m ρ c),
      (h.1.1 c main_v11_4 (by decide)).trans (result6 m ρ c),
      fun hi => (h.1.1 c main_v16 (by decide)).trans (result7 m ρ c hi)⟩,
      h.2.1 c⟩) (θ_run_and (run m ρ fun c => tailFree (V3 m ρ) c) (frame m ρ fun c => tailFree (V3 m ρ) c))

end Cert.KernelIdeal.Pf

end
-- ==== Proof.ReferenceIdeal.Outs.lean ====
/- What the reference's body leaves in each of its eight result buffers, as functions of its twelve input blocks. -/
module

public import proofs.«01_k».proof.Proof.Gen.ReferenceIdeal.Frame
public import Idealize.ShloMosaic.Lib.Pipeline.ValueKit
public import Idealize.ShloMosaic.Lib.Pipeline.ReadBack
public import proofs.«01_k».proof.Proof.Spec

@[expose] public section

set_option maxRecDepth 16384

noncomputable section

namespace Cert.ReferenceIdeal.Pf

open Idealize.ShloMosaic Idealize.ShloMosaic.TpuEff Idealize.SL.Sem Cert.ReferenceIdeal Cert.ReferenceIdeal.Gen Cert.Spec
open Facts
open scoped BigOperators

open Idealize.ShloMosaic.TcCoe
open Idealize.ShloMosaic.Pipeline (Dat Cfg Window)

variable (m : (ℓ : Loc nD τ sig) → Buf (Elt Ideal) ℓ)

/-- The products of all tokens with all vocabulary entries, scaled. -/
def logits (c : Dev nD) (t : Fin cfg0.N) : FVec Ideal S32768x30522 .f32 :=
  k0_pay11 (F := Ideal) (k0_pay4 (F := Ideal) (iblk m c 0 t) (iblk m c 3 t) (iblk m c 1 t) (iblk m c 4 t) (iblk m c 5 t)) (k0_pay5 (F := Ideal) (iblk m c 0 t) (iblk m c 3 t) (iblk m c 1 t) (iblk m c 4 t) (iblk m c 5 t)) (iblk m c 6 t) (iblk m c 7 t) (iblk m c 8 t)
/-- The embedding scales, spread over the tokens. -/
def scalesOf (c : Dev nD) (t : Fin cfg0.N) : FVec Ideal S32768x30522 .f32 := k0_pay12 (F := Ideal) (iblk m c 9 t)
/-- The weights. -/
def repOf (c : Dev nD) (t : Fin cfg0.N) : FVec Ideal S128x30522 .f32 := k0_pay13 (F := Ideal) (logits m c t) (scalesOf m c t) (iblk m c 10 t) (iblk m c 2 t)
/-- The impact scale. -/
def impOf (c : Dev nD) (t : Fin cfg0.N) : Ideal .f32 := iblk m c 11 t (ix1 0)

theorem left12 (c : Dev nD) (t : Fin cfg0.N) : (dats m 0 c).after 12 t = repOf m c t := by
  rw [after0_12]
  unfold outsAt0
  frame_out
  simp only [read_unread_whole]
  rfl
theorem left13 (c : Dev nD) (t : Fin cfg0.N) : (dats m 0 c).after 13 t = k0_pay1 (F := Ideal) (repOf m c t) := by
  rw [after0_13]
  unfold outsAt0
  frame_out
  simp only [read_unread_whole]
  rfl
theorem left14 (c : Dev nD) (t : Fin cfg0.N) : (dats m 0 c).after 14 t = k0_pay2 (F := Ideal) (repOf m c t) := by
  rw [after0_14]
  unfold outsAt0
  frame_out
  simp only [read_unread_whole]
  rfl
theorem left15 (c : Dev nD) (t : Fin cfg0.N) : (dats m 0 c).after 15 t = k0_pay3 (F := Ideal) (repOf m c t) := by
  rw [after0_15]
  unfold outsAt0
  frame_out
  simp only [read_unread_whole]
  rfl
theorem left16 (c : Dev nD) (t : Fin cfg0.N) : (dats m 0 c).after 16 t = k0_pay9 (F := Ideal) (k0_pay4 (F := Ideal) (iblk m c 0 t) (iblk m c 3 t) (iblk m c 1 t) (iblk m c 4 t) (iblk m c 5 t)) (k0_pay5 (F := Ideal) (iblk m c 0 t) (iblk m c 3 t) (iblk m c 1 t) (iblk m c 4 t) (iblk m c 5 t)) (iblk m c 6 t) (iblk m c 7 t) := by
  rw [after0_16]
  unfold outsAt0
  frame_out
  simp only [read_unread_whole]
theorem left17 (c : Dev nD) (t : Fin cfg0.N) : (dats m 0 c).after 17 t = k0_pay10 (F := Ideal) (k0_pay4 (F := Ideal) (iblk m c 0 t) (iblk m c 3 t) (iblk m c 1 t) (iblk m c 4 t) (iblk m c 5 t)) (k0_pay5 (F := Ideal) (iblk m c 0 t) (iblk m c 3 t) (iblk m c 1 t) (iblk m c 4 t) (iblk m c 5 t)) (iblk m c 6 t) (iblk m c 7 t) := by
  rw [after0_17]
  unfold outsAt0
  frame_out
  simp only [read_unread_whole]
theorem left18 (c : Dev nD) (t : Fin cfg0.N) : (dats m 0 c).after 18 t = k0_pay14 (F := Ideal) (logits m c t) (scalesOf m c t) (iblk m c 10 t) (iblk m c 2 t) (impOf m c t) := by
  rw [after0_18]
  unfold outsAt0
  frame_out
  simp only [read_unread_whole]
  refine congrArg (k0_pay14 (F := Ideal) _ _ _ _) (congrArg (iblk m c 11 t) (funext fun a => ?_))
  match a with
  | ⟨0, _⟩ => exact Subsingleton.elim (α := Fin 1) _ _
theorem left19 (c : Dev nD) (t : Fin cfg0.N) : (dats m 0 c).after 19 t = k0_pay15 (F := Ideal) (logits m c t) (scalesOf m c t) (iblk m c 10 t) (iblk m c 2 t) (impOf m c t) := by
  rw [after0_19]
  unfold outsAt0
  frame_out
  simp only [read_unread_whole]
  refine congrArg (k0_pay15 (F := Ideal) _ _ _ _) (congrArg (iblk m c 11 t) (funext fun a => ?_))
  match a with
  | ⟨0, _⟩ => exact Subsingleton.elim (α := Fin 1) _ _

end Cert.ReferenceIdeal.Pf

end
-- ==== Proof.ReferenceIdeal.Steps.lean ====
/- The vector operations of the reference, step by step, are the general towers at its extents. -/
module

public import proofs.«01_k».proof.Proof.Layers
public import proofs.«01_k».proof.Proof.Gen.ReferenceIdeal.Skeleton

@[expose] public section

set_option maxRecDepth 16384

noncomputable section

namespace Cert.ReferenceIdeal.Pf

open Idealize.ShloMosaic Idealize.ShloMosaic.TpuEff Idealize.SL.Sem Cert.ReferenceIdeal Cert.ReferenceIdeal.Gen Cert.Spec Cert.Generic
open Facts
open scoped BigOperators

/-- The reference's steps are the general ones at its extents. -/
theorem cen_eq (v0 : Vec Ideal S128x256x768 .fp8e4m3) (v2 : Vec Ideal S768x768 .fp8e4m3) (v4 : Vec Ideal S128x256x1 .f32) (v9 v13 : Vec Ideal S1x768 .f32) :
    k0_pay4 (F := Ideal) v0 v2 v4 v9 v13 = gCen broadcasts_S32768x1_S32768x768 broadcasts_S1x768_S32768x768 reduces_S32768x768_S32768 shapeCasts_S32768_S32768x1 shapeCasts_S1x768_S1x768
      (matmul (φ₁ := .fp8e4m3) (φ₂ := .fp8e4m3) dot_S32768x768_S768x768_S32768x768_1_0_0_1_n_n none (shapeCast S32768x768 v0 shapeCasts_S128x256x768_S32768x768) v2 (constant S32768x768 .f32 0x00000000#32))
      (shapeCast S32768x1 (shapeCast S128x256x1 v4 shapeCasts_S128x256x1_S128x256x1) shapeCasts_S128x256x1_S32768x1) v9 v13 := rfl
theorem dev_eq (v0 : Vec Ideal S128x256x768 .fp8e4m3) (v2 : Vec Ideal S768x768 .fp8e4m3) (v4 : Vec Ideal S128x256x1 .f32) (v9 v13 : Vec Ideal S1x768 .f32) :
    k0_pay5 (F := Ideal) v0 v2 v4 v9 v13 = gDev reduces_S32768x768_S32768 shapeCasts_S32768_S32768x1 (k0_pay4 (F := Ideal) v0 v2 v4 v9 v13) := rfl
theorem aff_eq (v30 : FVec Ideal S32768x768 .f32) (v38 : FVec Ideal S32768x1 .f32) (v41 v45 : Vec Ideal S1x768 .f32) :
    k0_pay6 (F := Ideal) v30 v38 v41 v45 = gAff broadcasts_S32768x1_S32768x768 broadcasts_S1x768_S32768x768 shapeCasts_S1x768_S1x768 v30 v38 v41 v45 := rfl
theorem scale_eq (v30 : FVec Ideal S32768x768 .f32) (v38 : FVec Ideal S32768x1 .f32) (v41 v45 : Vec Ideal S1x768 .f32) :
    k0_pay7 (F := Ideal) v30 v38 v41 v45 = gScale reduces_S32768x768_S32768 shapeCasts_S32768_S32768x1 (k0_pay6 (F := Ideal) v30 v38 v41 v45) := rfl
theorem code_eq (v30 : FVec Ideal S32768x768 .f32) (v38 : FVec Ideal S32768x1 .f32) (v41 v45 : Vec Ideal S1x768 .f32) :
    k0_pay8 (F := Ideal) v30 v38 v41 v45 = gCode broadcasts_S32768x1_S32768x768 (k0_pay6 (F := Ideal) v30 v38 v41 v45) (k0_pay7 (F := Ideal) v30 v38 v41 v45) := rfl
theorem rep_eq (v72 v75 : FVec Ideal S32768x30522 .f32) (v77 : Vec Ideal S1x30522 .f32) (v83 : Vec Ideal S128x1x1 .i32) :
    k0_pay13 (F := Ideal) v72 v75 v77 v83 = gRep broadcasts_S1x30522_S32768x30522 shapeCasts_S1x30522_S1x30522 shapeCasts_S32768x30522_S128x256x30522 iota_S128x256x30522_d1_w32 shapeCasts_S128x1x1_S128x1x1 broadcasts_S128x1x1_S128x256x30522 reduces_S128x256x30522_S128x30522 v72 v75 v77 v83 := rfl
theorem imp_eq (v72 v75 : FVec Ideal S32768x30522 .f32) (v77 : Vec Ideal S1x30522 .f32) (v83 : Vec Ideal S128x1x1 .i32) (v93 : Ideal .f32) :
    k0_pay14 (F := Ideal) v72 v75 v77 v83 v93 = gImp (k0_pay13 (F := Ideal) v72 v75 v77 v83) v93 := rfl
theorem sat_eq (v72 v75 : FVec Ideal S32768x30522 .f32) (v77 : Vec Ideal S1x30522 .f32) (v83 : Vec Ideal S128x1x1 .i32) (v93 : Ideal .f32) :
    k0_pay15 (F := Ideal) v72 v75 v77 v83 v93 = gSat reduces_S128x30522_S128 shapeCasts_S128_S128x1 (k0_pay13 (F := Ideal) v72 v75 v77 v83) v93 := rfl
theorem l1_eq (v92 : FVec Ideal S128x30522 .f32) : k0_pay1 (F := Ideal) v92 = gL1 reduces_S128x30522_S128 shapeCasts_S128_S128x1 v92 := rfl
theorem mean_eq (v92 : FVec Ideal S128x30522 .f32) : k0_pay2 (F := Ideal) v92 = gMean reduces_S128x30522_S30522 shapeCasts_S30522_S1x30522 v92 := rfl
theorem flops_eq (v92 : FVec Ideal S128x30522 .f32) : k0_pay3 (F := Ideal) v92 = gFlops reduces_S1x30522_S1 shapeCasts_S1_S1x1 (k0_pay2 (F := Ideal) v92) := rfl

theorem p9_eq (v30 : FVec Ideal S32768x768 .f32) (v38 : FVec Ideal S32768x1 .f32) (v41 v45 : Vec Ideal S1x768 .f32) :
    k0_pay9 (F := Ideal) v30 v38 v41 v45 = shapeCast S128x256x768 (k0_pay8 (F := Ideal) v30 v38 v41 v45) shapeCasts_S32768x768_S128x256x768 := rfl
theorem p10_eq (v30 : FVec Ideal S32768x768 .f32) (v38 : FVec Ideal S32768x1 .f32) (v41 v45 : Vec Ideal S1x768 .f32) :
    k0_pay10 (F := Ideal) v30 v38 v41 v45 = shapeCast S128x256x1 (k0_pay7 (F := Ideal) v30 v38 v41 v45) shapeCasts_S32768x1_S128x256x1 := rfl
theorem p11_eq (v30 : FVec Ideal S32768x768 .f32) (v38 : FVec Ideal S32768x1 .f32) (v41 v45 : Vec Ideal S1x768 .f32) (v69 : Vec Ideal S30522x768 .fp8e4m3) :
    k0_pay11 (F := Ideal) v30 v38 v41 v45 v69 = mulf (matmul (φ₁ := .fp8e4m3) (φ₂ := .fp8e4m3) (DotDims.transposedRhs 32768 768 30522) none (k0_pay8 (F := Ideal) v30 v38 v41 v45) v69 (constant S32768x30522 .f32 0x00000000#32))
      (broadcastTo S32768x30522 (k0_pay7 (F := Ideal) v30 v38 v41 v45) broadcasts_S32768x1_S32768x30522) := rfl
theorem p12_eq (v73 : Vec Ideal S1x30522 .f32) : k0_pay12 (F := Ideal) v73 = broadcastTo S32768x30522 v73 broadcasts_S1x30522_S32768x30522 :=
  congrArg (fun z : FVec Ideal S1x30522 .f32 => broadcastTo S32768x30522 z broadcasts_S1x30522_S32768x30522) (Idealize.ShloMosaic.shapeCast_self v73 _)

end Cert.ReferenceIdeal.Pf

end
-- ==== Proof.ReferenceIdeal.Row.lean ====
/- What the reference computes for one token: its normalised row, its codes and its scale. -/
module

public import proofs.«01_k».proof.Proof.ReferenceIdeal.Steps

@[expose] public section

set_option maxRecDepth 16384

noncomputable section

namespace Cert.ReferenceIdeal.Pf

open Idealize.ShloMosaic Idealize.ShloMosaic.TpuEff Idealize.SL.Sem Cert.ReferenceIdeal Cert.ReferenceIdeal.Gen Cert.Spec Cert.Generic
open Facts
open scoped BigOperators

/-- The place of token `t` of document `d` in the list of all tokens. -/
abbrev at_ (d : Fin 128) (t : Fin 256) : Fin 32768 := ⟨d.val * 256 + t.val, by omega⟩

section
variable (v0 : Vec Ideal S128x256x768 .fp8e4m3) (v2 : Vec Ideal S768x768 .fp8e4m3) (v4 : Vec Ideal S128x256x1 .f32) (v9 v13 v41 v45 : Vec Ideal S1x768 .f32)

/-- Token `t` of document `d`, normalised. -/
abbrev tok (d : Fin 128) (t : Fin 256) : Row :=
  token (fun k => v0 (ix3 d t k)) (v4 (ix3 d t 0)) (fun k j => v2 (ix2 k j)) (fun j => v9 (ix2 0 j)) (fun j => v13 (ix2 0 j)) (fun j => v41 (ix2 0 j)) (fun j => v45 (ix2 0 j))

theorem mm_apply (d : Fin 128) (t : Fin 256) (j : Fin 768) :
    matmul (F := Ideal) (φ₁ := .fp8e4m3) (φ₂ := .fp8e4m3) dot_S32768x768_S768x768_S32768x768_1_0_0_1_n_n none (shapeCast S32768x768 v0 shapeCasts_S128x256x768_S32768x768) v2 (constant S32768x768 .f32 0x00000000#32) (ix2 (at_ d t) j)
      = ∑ k : Fin 768, v0 (ix3 d t k) * v2 (ix2 k j) := by
  refine (plainMat (M := 32768) (K := 768) (N := 768) (φ₁ := .fp8e4m3) (φ₂ := .fp8e4m3) none _ _ (at_ d t) j).trans ?_
  refine Finset.sum_congr rfl fun k _ => ?_
  exact congrArg (fun z : EReal => z * v2 (ix2 k j)) (joinRows v0 shapeCasts_S128x256x768_S32768x768 d t k (at_ d t).isLt)

theorem cen_apply (d : Fin 128) (t : Fin 256) (j : Fin 768) :
    k0_pay4 (F := Ideal) v0 v2 v4 v9 v13 (ix2 (at_ d t) j)
      = centred (fun j => gelu (hid (fun k => v0 (ix3 d t k)) (v4 (ix3 d t 0)) (fun k j => v2 (ix2 k j)) (fun j => v9 (ix2 0 j)) (fun j => v13 (ix2 0 j)) j)) j := by
  rw [cen_eq]
  refine (gCen_apply _ _ _ _ _ _ _ _ _ (at_ d t) j).trans ?_
  refine congrFun (congrArg centred (funext fun i => congrArg gelu ?_)) j
  rw [mm_apply]
  refine congrArg (fun z : EReal => (∑ k : Fin 768, v0 (ix3 d t k) * v2 (ix2 k i)) * z * v9 (ix2 0 i) + v13 (ix2 0 i)) ?_
  refine (joinRows _ shapeCasts_S128x256x1_S32768x1 d t 0 (at_ d t).isLt).trans ?_
  exact congrFun (Idealize.ShloMosaic.shapeCast_self v4 _) _

theorem tok_apply (d : Fin 128) (t : Fin 256) (j : Fin 768) :
    k0_pay6 (F := Ideal) (k0_pay4 (F := Ideal) v0 v2 v4 v9 v13) (k0_pay5 (F := Ideal) v0 v2 v4 v9 v13) v41 v45 (ix2 (at_ d t) j) = tok v0 v2 v4 v9 v13 v41 v45 d t j := by
  rw [aff_eq]
  refine (gAff_apply _ _ _ _ _ _ _ (at_ d t) j).trans ?_
  have e : (fun j => k0_pay4 (F := Ideal) v0 v2 v4 v9 v13 (ix2 (at_ d t) j)) = _ := funext fun j => cen_apply v0 v2 v4 v9 v13 d t j
  have e' : k0_pay5 (F := Ideal) v0 v2 v4 v9 v13 (ix2 (at_ d t) 0) = _ := (congrFun (dev_eq v0 v2 v4 v9 v13) _).trans (gDev_apply _ _ _ (at_ d t))
  rw [e', e]
  rfl

theorem scale_apply (d : Fin 128) (t : Fin 256) :
    k0_pay7 (F := Ideal) (k0_pay4 (F := Ideal) v0 v2 v4 v9 v13) (k0_pay5 (F := Ideal) v0 v2 v4 v9 v13) v41 v45 (ix2 (at_ d t) 0) = scale (tok v0 v2 v4 v9 v13 v41 v45 d t) := by
  rw [scale_eq]
  refine (gScale_apply _ _ _ (at_ d t)).trans ?_
  exact congrArg scale (funext fun j => tok_apply v0 v2 v4 v9 v13 v41 v45 d t j)

theorem code_apply (d : Fin 128) (t : Fin 256) (j : Fin 768) :
    k0_pay8 (F := Ideal) (k0_pay4 (F := Ideal) v0 v2 v4 v9 v13) (k0_pay5 (F := Ideal) v0 v2 v4 v9 v13) v41 v45 (ix2 (at_ d t) j) = code (tok v0 v2 v4 v9 v13 v41 v45 d t) j := by
  rw [code_eq]
  refine (gCode_apply _ _ _ (at_ d t) j).trans ?_
  rw [tok_apply, scale_apply]
  rfl

/-- The reference's codes and scales of token `t` of document `d`. -/
theorem codes_apply (d : Fin 128) (t : Fin 256) (j : Fin 768) :
    k0_pay9 (F := Ideal) (k0_pay4 (F := Ideal) v0 v2 v4 v9 v13) (k0_pay5 (F := Ideal) v0 v2 v4 v9 v13) v41 v45 (ix3 d t j) = code (tok v0 v2 v4 v9 v13 v41 v45 d t) j := by
  rw [p9_eq]
  refine (groupRows (p := 32768) (a := 128) (b := 256) (c := 768) _ _ d t j (at_ d t).isLt).trans ?_
  exact code_apply v0 v2 v4 v9 v13 v41 v45 d t j

theorem scales_apply (d : Fin 128) (t : Fin 256) :
    k0_pay10 (F := Ideal) (k0_pay4 (F := Ideal) v0 v2 v4 v9 v13) (k0_pay5 (F := Ideal) v0 v2 v4 v9 v13) v41 v45 (ix3 d t 0) = scale (tok v0 v2 v4 v9 v13 v41 v45 d t) := by
  rw [p10_eq]
  refine (groupRows (p := 32768) (a := 128) (b := 256) (c := 1) _ _ d t 0 (at_ d t).isLt).trans ?_
  exact scale_apply v0 v2 v4 v9 v13 v41 v45 d t
end

end Cert.ReferenceIdeal.Pf

end
-- ==== Proof.ReferenceIdeal.Pooled.lean ====
/- What the reference computes for one document and one vocabulary entry. -/
module

public import proofs.«01_k».proof.Proof.ReferenceIdeal.Row

@[expose] public section

set_option maxRecDepth 16384

noncomputable section

namespace Cert.ReferenceIdeal.Pf

open Idealize.ShloMosaic Idealize.ShloMosaic.TpuEff Idealize.SL.Sem Cert.ReferenceIdeal Cert.ReferenceIdeal.Gen Cert.Spec Cert.Generic
open Facts
open scoped BigOperators

section
variable (v0 : Vec Ideal S128x256x768 .fp8e4m3) (v2 : Vec Ideal S768x768 .fp8e4m3) (v4 : Vec Ideal S128x256x1 .f32) (v9 v13 v41 v45 : Vec Ideal S1x768 .f32)

/-- The product of a token's codes with an entry's codes, times the token's scale. -/
theorem logit_apply (v69 : Vec Ideal S30522x768 .fp8e4m3) (d : Fin 128) (t : Fin 256) (v : Fin 30522) :
    k0_pay11 (F := Ideal) (k0_pay4 (F := Ideal) v0 v2 v4 v9 v13) (k0_pay5 (F := Ideal) v0 v2 v4 v9 v13) v41 v45 v69 (ix2 (at_ d t) v)
      = (∑ k : Fin 768, code (tok v0 v2 v4 v9 v13 v41 v45 d t) k * v69 (ix2 v k)) * scale (tok v0 v2 v4 v9 v13 v41 v45 d t) := by
  rw [p11_eq, ValueIdx.mulf_apply]
  have e1 := (transMat (M := 32768) (K := 768) (N := 30522) (φ₁ := .fp8e4m3) (φ₂ := .fp8e4m3) none
    (k0_pay8 (F := Ideal) (k0_pay4 (F := Ideal) v0 v2 v4 v9 v13) (k0_pay5 (F := Ideal) v0 v2 v4 v9 v13) v41 v45) v69 (at_ d t) v)
  simp only [code_apply] at e1
  have e2 := (spreadCol (k0_pay7 (F := Ideal) (k0_pay4 (F := Ideal) v0 v2 v4 v9 v13) (k0_pay5 (F := Ideal) v0 v2 v4 v9 v13) v41 v45) broadcasts_S32768x1_S32768x30522 (at_ d t) v).trans
    (scale_apply v0 v2 v4 v9 v13 v41 v45 d t)
  exact congrArg₂ (fun a b : EReal => a * b) e1 e2

theorem es_apply (v73 : Vec Ideal S1x30522 .f32) (r : Fin 32768) (v : Fin 30522) : k0_pay12 (F := Ideal) v73 (ix2 r v) = v73 (ix2 0 v) := by
  rw [p12_eq]
  exact spreadRow _ _ r v

/-- The reference's weight of document `d` for entry `v`. -/
theorem rep_apply (v69 : Vec Ideal S30522x768 .fp8e4m3) (v73 v77 : Vec Ideal S1x30522 .f32) (v83 : Vec Ideal S128x1x1 .i32) (d : Fin 128) (v : Fin 30522) :
    k0_pay13 (F := Ideal) (k0_pay11 (F := Ideal) (k0_pay4 (F := Ideal) v0 v2 v4 v9 v13) (k0_pay5 (F := Ideal) v0 v2 v4 v9 v13) v41 v45 v69) (k0_pay12 (F := Ideal) v73) v77 v83 (ix2 d v)
      = weight (best (v83 (ix3 d 0 0)) (fun t => code (tok v0 v2 v4 v9 v13 v41 v45 d t)) (fun t => scale (tok v0 v2 v4 v9 v13 v41 v45 d t))
          (fun k => v69 (ix2 v k)) (v73 (ix2 0 v)) (v77 (ix2 0 v))) := by
  rw [rep_eq]
  refine (gRep_apply _ _ _ _ _ _ _ _ _ _ _ d v (fun t => (at_ d t).isLt)).trans ?_
  refine congrArg weight ?_
  unfold best
  refine congrArg (fun f : Fin 256 → EReal => Finset.univ.fold max cNegInf f) (funext fun t => ?_)
  refine congrArg (fun z : EReal => Scalar.select _ z cNegInf) ?_
  refine congrArg (fun z : EReal => z + v77 (ix2 0 v)) ?_
  exact congrArg₂ (fun a b : EReal => a * b) (logit_apply v0 v2 v4 v9 v13 v41 v45 v69 d t v) (es_apply v73 (at_ d t) v)
end

end Cert.ReferenceIdeal.Pf

end
-- ==== Proof.ReferenceIdeal.Blocks.lean ====
/- The eight blocks the reference's call computes, from the arguments. -/
module

public import proofs.«01_k».proof.Proof.ReferenceIdeal.Inputs
public import proofs.«01_k».proof.Proof.ReferenceIdeal.Outs
public import proofs.«01_k».proof.Proof.ReferenceIdeal.Pooled
public import Idealize.ShloMosaic.Lib.Pipeline.Covers

@[expose] public section

set_option maxRecDepth 16384

noncomputable section

namespace Cert.ReferenceIdeal.Pf

open Idealize.ShloMosaic Idealize.ShloMosaic.TpuEff Idealize.SL.Sem Cert.ReferenceIdeal Cert.ReferenceIdeal.Gen Cert.Spec Cert.Generic
open Facts
open scoped BigOperators

open Idealize.ShloMosaic.TcCoe
open Idealize.ShloMosaic.Pipeline (Dat Cfg Window)

variable (m : (ℓ : Loc nD τ sig) → Buf (Elt Ideal) ℓ)

/-- Token `s` of document `d`, normalised, read off the input blocks. -/
theorem tok_args (c : Dev nD) (t : Fin cfg0.N) (d : Fin 128) (s : Fin 256) :
    tok (iblk m c 0 t) (iblk m c 3 t) (iblk m c 1 t) (iblk m c 4 t) (iblk m c 5 t) (iblk m c 6 t) (iblk m c 7 t) d s = (args m c).tok d s := by
  unfold tok Args.tok
  rw [funext fun k => in_x m c t d s k, in_xs m c t d s, funext fun k => funext fun j => in_w m c t k j, funext fun j => in_ws m c t j, funext fun j => in_b m c t j,
    funext fun j => in_gam m c t j, funext fun j => in_beta m c t j]
/-- The codes, the scales and the weights, from the arguments. -/
theorem code_args (c : Dev nD) (t : Fin cfg0.N) (d : Fin 128) (s : Fin 256) (j : Fin 768) :
    k0_pay9 (F := Ideal) (k0_pay4 (F := Ideal) (iblk m c 0 t) (iblk m c 3 t) (iblk m c 1 t) (iblk m c 4 t) (iblk m c 5 t)) (k0_pay5 (F := Ideal) (iblk m c 0 t) (iblk m c 3 t) (iblk m c 1 t) (iblk m c 4 t) (iblk m c 5 t)) (iblk m c 6 t) (iblk m c 7 t) (ix3 d s j) = code ((args m c).tok d s) j := by
  refine (codes_apply _ _ _ _ _ _ _ d s j).trans ?_
  exact congrFun (congrArg code (tok_args m c t d s)) j
theorem scale_args (c : Dev nD) (t : Fin cfg0.N) (d : Fin 128) (s : Fin 256) :
    k0_pay10 (F := Ideal) (k0_pay4 (F := Ideal) (iblk m c 0 t) (iblk m c 3 t) (iblk m c 1 t) (iblk m c 4 t) (iblk m c 5 t)) (k0_pay5 (F := Ideal) (iblk m c 0 t) (iblk m c 3 t) (iblk m c 1 t) (iblk m c 4 t) (iblk m c 5 t)) (iblk m c 6 t) (iblk m c 7 t) (ix3 d s 0) = scale ((args m c).tok d s) := by
  refine (scales_apply _ _ _ _ _ _ _ d s).trans ?_
  exact congrArg scale (tok_args m c t d s)
theorem rep_args (c : Dev nD) (t : Fin cfg0.N) (d : Fin 128) (v : Fin 30522) : repOf m c t (ix2 d v) = (args m c).wt d v := by
  unfold repOf logits scalesOf Args.wt
  refine (rep_apply _ _ _ _ _ _ _ _ _ _ _ d v).trans ?_
  rw [in_lens, in_es, in_bv, funext fun k => in_emb m c t v k, funext fun s => congrArg code (tok_args m c t d s), funext fun s => congrArg scale (tok_args m c t d s)]
theorem imp_args (c : Dev nD) (t : Fin cfg0.N) : impOf m c t = (args m c).imp := in_imp m c t
/-- The sums over the weights, from the arguments. -/
theorem l1_args (c : Dev nD) (t : Fin cfg0.N) (d : Fin 128) : k0_pay1 (F := Ideal) (repOf m c t) (ix2 d 0) = (args m c).l1 d := by
  rw [l1_eq]
  refine (gL1_apply _ _ _ d).trans ?_
  exact Finset.sum_congr rfl fun v _ => rep_args m c t d v
theorem mean_args (c : Dev nD) (t : Fin cfg0.N) (v : Fin 30522) : k0_pay2 (F := Ideal) (repOf m c t) (ix2 0 v) = (args m c).mean v := by
  rw [mean_eq]
  refine (gMean_apply _ _ _ v).trans ?_
  exact congrArg (fun z : EReal => Ideal.div z c128) (Finset.sum_congr rfl fun d _ => rep_args m c t d v)
theorem flops_args (c : Dev nD) (t : Fin cfg0.N) : k0_pay3 (F := Ideal) (repOf m c t) (ix2 0 0) = (args m c).flops := by
  rw [flops_eq]
  refine (gFlops_apply _ _ _).trans ?_
  exact Finset.sum_congr rfl fun v _ => congrArg (fun z : EReal => z * z) (mean_args m c t v)
theorem impact_args (c : Dev nD) (t : Fin cfg0.N) (d : Fin 128) (v : Fin 30522) :
    k0_pay14 (F := Ideal) (logits m c t) (scalesOf m c t) (iblk m c 10 t) (iblk m c 2 t) (impOf m c t) (ix2 d v) = impact (args m c).imp ((args m c).wt d v) := by
  rw [imp_eq]
  refine (gImp_apply _ _ d v).trans ?_
  exact congrArg₂ impact (imp_args m c t) (rep_args m c t d v)
theorem sat_args (c : Dev nD) (t : Fin cfg0.N) (d : Fin 128) :
    k0_pay15 (F := Ideal) (logits m c t) (scalesOf m c t) (iblk m c 10 t) (iblk m c 2 t) (impOf m c t) (ix2 d 0) = (args m c).sat d := by
  rw [sat_eq]
  refine (gSat_apply _ _ _ _ d).trans ?_
  exact Finset.sum_congr rfl fun v _ => congrArg₂ excess (imp_args m c t) (rep_args m c t d v)

end Cert.ReferenceIdeal.Pf

end
-- ==== Proof.ReferenceIdeal.Arrays.lean ====
/- The eight arrays the reference leaves, from the arguments. -/
module

public import proofs.«01_k».proof.Proof.ReferenceIdeal.Blocks
public import Idealize.ShloMosaic.Lib.Pipeline.Covers

@[expose] public section

set_option maxRecDepth 16384

noncomputable section

namespace Cert.ReferenceIdeal.Pf

open Idealize.ShloMosaic Idealize.ShloMosaic.TpuEff Idealize.SL.Sem Cert.ReferenceIdeal Cert.ReferenceIdeal.Gen Cert.Spec Cert.Generic
open Facts
open scoped BigOperators

open Idealize.ShloMosaic.TcCoe
open Idealize.ShloMosaic.Pipeline (Dat Cfg Window)

variable (m : (ℓ : Loc nD τ sig) → Buf (Elt Ideal) ℓ)

/-! The arrays: each is one block, written once. -/
theorem rep_array (c : Dev nD) : (dats m 0 c).arrAt 12 cfg0.N = fun i => (args m c).wt (i 0) (i 1) := by
  refine (dats m 0 c).arrAt_eq_of_covers 12 _ (by decide +kernel) fun t hf y => ?_
  rw [left12]
  obtain ⟨d, v, rfl⟩ : ∃ (d : Fin 128) (v : Fin 30522), y = ix2 d v := ⟨y 0, y 1, funext fun a => by match a with | ⟨0, _⟩ => rfl | ⟨1, _⟩ => rfl⟩
  have e : ((cfg0.win 12).blk t).view.emb (ix2 d v) = ix2 d v := funext fun a => Fin.ext (Window.rect_emb_val_of_index_zero win0_12 t a (by match a with | ⟨0, _⟩ => rfl | ⟨1, _⟩ => rfl) _)
  rw [e]
  have e1 := rep_args m c t d v
  revert e1
  generalize repOf m c t = Z
  generalize args m c = A
  intro e1
  have hx : (cfg0.win 12).xinj (cfg0.grid.coords t) (ix2 d v) = ix2 d v := funext fun a => by match a with | ⟨0, _⟩ => rfl | ⟨1, _⟩ => rfl
  rw [hx]
  refine (eq_of_heq (cast_heq _ _)).trans (e1.trans ?_)
  rfl
theorem l1_array (c : Dev nD) : (dats m 0 c).arrAt 13 cfg0.N = fun i => (args m c).l1 (i 0) := by
  refine (dats m 0 c).arrAt_eq_of_covers 13 _ (by decide +kernel) fun t hf y => ?_
  rw [left13]
  obtain ⟨d, rfl⟩ : ∃ (d : Fin 128), y = ix2 d 0 := ⟨y 0, funext fun a => by match a with | ⟨0, _⟩ => rfl | ⟨1, _⟩ => exact Subsingleton.elim (α := Fin 1) _ _⟩
  have e : ((cfg0.win 13).blk t).view.emb (ix2 d 0) = ix2 d 0 := funext fun a => Fin.ext (Window.rect_emb_val_of_index_zero win0_13 t a (by match a with | ⟨0, _⟩ => rfl | ⟨1, _⟩ => rfl) _)
  rw [e]
  have e1 := l1_args m c t d
  revert e1
  generalize k0_pay1 (F := Ideal) (repOf m c t) = Z
  generalize args m c = A
  intro e1
  have hx : (cfg0.win 13).xinj (cfg0.grid.coords t) (ix2 d 0) = ix2 d 0 := funext fun a => by match a with | ⟨0, _⟩ => rfl | ⟨1, _⟩ => rfl
  rw [hx]
  refine (eq_of_heq (cast_heq _ _)).trans (e1.trans ?_)
  rfl
theorem mean_array (c : Dev nD) : (dats m 0 c).arrAt 14 cfg0.N = fun i => (args m c).mean (i 1) := by
  refine (dats m 0 c).arrAt_eq_of_covers 14 _ (by decide +kernel) fun t hf y => ?_
  rw [left14]
  obtain ⟨v, rfl⟩ : ∃ (v : Fin 30522), y = ix2 0 v := ⟨y 1, funext fun a => by match a with | ⟨0, _⟩ => exact Subsingleton.elim (α := Fin 1) _ _ | ⟨1, _⟩ => rfl⟩
  have e : ((cfg0.win 14).blk t).view.emb (ix2 0 v) = ix2 0 v := funext fun a => Fin.ext (Window.rect_emb_val_of_index_zero win0_14 t a (by match a with | ⟨0, _⟩ => rfl | ⟨1, _⟩ => rfl) _)
  rw [e]
  have e1 := mean_args m c t v
  revert e1
  generalize k0_pay2 (F := Ideal) (repOf m c t) = Z
  generalize args m c = A
  intro e1
  have hx : (cfg0.win 14).xinj (cfg0.grid.coords t) (ix2 0 v) = ix2 0 v := funext fun a => by match a with | ⟨0, _⟩ => rfl | ⟨1, _⟩ => rfl
  rw [hx]
  refine (eq_of_heq (cast_heq _ _)).trans (e1.trans ?_)
  rfl
theorem flops_array (c : Dev nD) : (dats m 0 c).arrAt 15 cfg0.N = fun i => (args m c).flops := by
  refine (dats m 0 c).arrAt_eq_of_covers 15 _ (by decide +kernel) fun t hf y => ?_
  rw [left15]
  obtain rfl : y = ix2 0 0 := funext fun a => by match a with | ⟨0, _⟩ => exact Subsingleton.elim (α := Fin 1) _ _ | ⟨1, _⟩ => exact Subsingleton.elim (α := Fin 1) _ _
  have e1 := flops_args m c t
  revert e1
  generalize k0_pay3 (F := Ideal) (repOf m c t) = Z
  generalize args m c = A
  intro e1
  have hx : (cfg0.win 15).xinj (cfg0.grid.coords t) (ix2 0 0) = ix2 0 0 := funext fun a => by match a with | ⟨0, _⟩ => rfl | ⟨1, _⟩ => rfl
  rw [hx]
  refine (eq_of_heq (cast_heq _ _)).trans (e1.trans ?_)
  rfl
theorem codes_array (c : Dev nD) : (dats m 0 c).arrAt 16 cfg0.N = fun i => code ((args m c).tok (i 0) (i 1)) (i 2) := by
  refine (dats m 0 c).arrAt_eq_of_covers 16 _ (by decide +kernel) fun t hf y => ?_
  rw [left16]
  obtain ⟨d, s, k, rfl⟩ : ∃ (d : Fin 128) (s : Fin 256) (k : Fin 768), y = ix3 d s k := ⟨y 0, y 1, y 2, funext fun a => by match a with | ⟨0, _⟩ => rfl | ⟨1, _⟩ => rfl | ⟨2, _⟩ => rfl⟩
  have e : ((cfg0.win 16).blk t).view.emb (ix3 d s k) = ix3 d s k := funext fun a => Fin.ext (Window.rect_emb_val_of_index_zero win0_16 t a (by match a with | ⟨0, _⟩ => rfl | ⟨1, _⟩ => rfl | ⟨2, _⟩ => rfl) _)
  rw [e]
  have e1 := code_args m c t d s k
  revert e1
  generalize k0_pay9 (F := Ideal) (k0_pay4 (F := Ideal) (iblk m c 0 t) (iblk m c 3 t) (iblk m c 1 t) (iblk m c 4 t) (iblk m c 5 t)) (k0_pay5 (F := Ideal) (iblk m c 0 t) (iblk m c 3 t) (iblk m c 1 t) (iblk m c 4 t) (iblk m c 5 t)) (iblk m c 6 t) (iblk m c 7 t) = Z
  generalize args m c = A
  intro e1
  have hx : (cfg0.win 16).xinj (cfg0.grid.coords t) (ix3 d s k) = ix3 d s k := funext fun a => by match a with | ⟨0, _⟩ => rfl | ⟨1, _⟩ => rfl | ⟨2, _⟩ => rfl
  rw [hx]
  refine (eq_of_heq (cast_heq _ _)).trans (e1.trans ?_)
  rfl
theorem scales_array (c : Dev nD) : (dats m 0 c).arrAt 17 cfg0.N = fun i => scale ((args m c).tok (i 0) (i 1)) := by
  refine (dats m 0 c).arrAt_eq_of_covers 17 _ (by decide +kernel) fun t hf y => ?_
  rw [left17]
  obtain ⟨d, s, rfl⟩ : ∃ (d : Fin 128) (s : Fin 256), y = ix3 d s 0 := ⟨y 0, y 1, funext fun a => by match a with | ⟨0, _⟩ => rfl | ⟨1, _⟩ => rfl | ⟨2, _⟩ => exact Subsingleton.elim (α := Fin 1) _ _⟩
  have e : ((cfg0.win 17).blk t).view.emb (ix3 d s 0) = ix3 d s 0 := funext fun a => Fin.ext (Window.rect_emb_val_of_index_zero win0_17 t a (by match a with | ⟨0, _⟩ => rfl | ⟨1, _⟩ => rfl | ⟨2, _⟩ => rfl) _)
  rw [e]
  have e1 := scale_args m c t d s
  revert e1
  generalize k0_pay10 (F := Ideal) (k0_pay4 (F := Ideal) (iblk m c 0 t) (iblk m c 3 t) (iblk m c 1 t) (iblk m c 4 t) (iblk m c 5 t)) (k0_pay5 (F := Ideal) (iblk m c 0 t) (iblk m c 3 t) (iblk m c 1 t) (iblk m c 4 t) (iblk m c 5 t)) (iblk m c 6 t) (iblk m c 7 t) = Z
  generalize args m c = A
  intro e1
  have hx : (cfg0.win 17).xinj (cfg0.grid.coords t) (ix3 d s 0) = ix3 d s 0 := funext fun a => by match a with | ⟨0, _⟩ => rfl | ⟨1, _⟩ => rfl | ⟨2, _⟩ => rfl
  rw [hx]
  refine (eq_of_heq (cast_heq _ _)).trans (e1.trans ?_)
  rfl
theorem impacts_array (c : Dev nD) : (dats m 0 c).arrAt 18 cfg0.N = fun i => impact (args m c).imp ((args m c).wt (i 0) (i 1)) := by
  refine (dats m 0 c).arrAt_eq_of_covers 18 _ (by decide +kernel) fun t hf y => ?_
  rw [left18]
  obtain ⟨d, v, rfl⟩ : ∃ (d : Fin 128) (v : Fin 30522), y = ix2 d v := ⟨y 0, y 1, funext fun a => by match a with | ⟨0, _⟩ => rfl | ⟨1, _⟩ => rfl⟩
  have e : ((cfg0.win 18).blk t).view.emb (ix2 d v) = ix2 d v := funext fun a => Fin.ext (Window.rect_emb_val_of_index_zero win0_18 t a (by match a with | ⟨0, _⟩ => rfl | ⟨1, _⟩ => rfl) _)
  rw [e]
  have e1 := impact_args m c t d v
  revert e1
  generalize k0_pay14 (F := Ideal) (logits m c t) (scalesOf m c t) (iblk m c 10 t) (iblk m c 2 t) (impOf m c t) = Z
  generalize args m c = A
  intro e1
  have hx : (cfg0.win 18).xinj (cfg0.grid.coords t) (ix2 d v) = ix2 d v := funext fun a => by match a with | ⟨0, _⟩ => rfl | ⟨1, _⟩ => rfl
  rw [hx]
  refine (eq_of_heq (cast_heq _ _)).trans (e1.trans ?_)
  rfl
theorem sat_array (c : Dev nD) : (dats m 0 c).arrAt 19 cfg0.N = fun i => (args m c).sat (i 0) := by
  refine (dats m 0 c).arrAt_eq_of_covers 19 _ (by decide +kernel) fun t hf y => ?_
  rw [left19]
  obtain ⟨d, rfl⟩ : ∃ (d : Fin 128), y = ix2 d 0 := ⟨y 0, funext fun a => by match a with | ⟨0, _⟩ => rfl | ⟨1, _⟩ => exact Subsingleton.elim (α := Fin 1) _ _⟩
  have e : ((cfg0.win 19).blk t).view.emb (ix2 d 0) = ix2 d 0 := funext fun a => Fin.ext (Window.rect_emb_val_of_index_zero win0_19 t a (by match a with | ⟨0, _⟩ => rfl | ⟨1, _⟩ => rfl) _)
  rw [e]
  have e1 := sat_args m c t d
  revert e1
  generalize k0_pay15 (F := Ideal) (logits m c t) (scalesOf m c t) (iblk m c 10 t) (iblk m c 2 t) (impOf m c t) = Z
  generalize args m c = A
  intro e1
  have hx : (cfg0.win 19).xinj (cfg0.grid.coords t) (ix2 d 0) = ix2 d 0 := funext fun a => by match a with | ⟨0, _⟩ => rfl | ⟨1, _⟩ => rfl
  rw [hx]
  refine (eq_of_heq (cast_heq _ _)).trans (e1.trans ?_)
  rfl

end Cert.ReferenceIdeal.Pf

end
-- ==== Proof.ReferenceIdeal.Results.lean ====
/- What the reference leaves in its eight results, and that its arguments end as they began. -/
module

public import proofs.«01_k».proof.Proof.ReferenceIdeal.Arrays

@[expose] public section

set_option maxRecDepth 16384

noncomputable section

namespace Cert.ReferenceIdeal.Pf

open Idealize.ShloMosaic Idealize.ShloMosaic.TpuEff Idealize.SL.Sem Cert.ReferenceIdeal Cert.ReferenceIdeal.Gen Cert.Spec Cert.Generic
open Facts
open scoped BigOperators

open Idealize.ShloMosaic.TcCoe
open Idealize.ShloMosaic.Pipeline (Dat Cfg Window)

variable (m : (ℓ : Loc nD τ sig) → Buf (Elt Ideal) ℓ)

/-- What the lines after the call read of the call's array `w`. -/
abbrev W (c : Dev nD) : Valuation τ sig (Elt Ideal) := Pipeline.withArrays spec0 c (V0 m c) fun w => (dats m 0 c).arrAt w cfg0.N
theorem W_arr (c : Dev nD) (w : Fin cfg0.W) : W m c (Proc.devRef .tc (Pipeline.arrRef spec0 w)) = (dats m 0 c).arrAt w cfg0.N :=
  Pipeline.withArrays_arr spec0 (by decide +kernel) c (V0 m c) _ w
theorem tail_eq (c : Dev nD) (b : Ref sig .tc) : Pipeline.afterTail₀ cfgs (dats m) 0 (V0 m) [hostOps1] c b = StableHlo.after hostOps1 (W m c) (Proc.devRef .tc b) := rfl

/-! The five results that a host line reshapes. -/
theorem host_l1 (c : Dev nD) : StableHlo.after hostOps1 (W m c) (Proc.devRef .tc main_v10) = fun i => (args m c).l1 (i 0) := by
  refine (host_v10 (W m c)).trans (funext fun i => ?_)
  rw [show W m c (Proc.devRef .tc main_v9_1) = _ from W_arr m c 13, l1_array]
  obtain ⟨d, rfl⟩ : ∃ d : Fin 128, i = ix1 d := ⟨i 0, funext fun a => by match a with | ⟨0, _⟩ => rfl⟩
  exact unCol _ _ d
theorem host_mean (c : Dev nD) : StableHlo.after hostOps1 (W m c) (Proc.devRef .tc main_v11) = fun i => (args m c).mean (i 0) := by
  refine (host_v11 (W m c)).trans (funext fun i => ?_)
  rw [show W m c (Proc.devRef .tc main_v9_2) = _ from W_arr m c 14, mean_array]
  obtain ⟨d, rfl⟩ : ∃ d : Fin 30522, i = ix1 d := ⟨i 0, funext fun a => by match a with | ⟨0, _⟩ => rfl⟩
  exact unRow _ _ d
theorem host_sat (c : Dev nD) : StableHlo.after hostOps1 (W m c) (Proc.devRef .tc main_v14) = fun i => (args m c).sat (i 0) := by
  refine (host_v14 (W m c)).trans (funext fun i => ?_)
  rw [show W m c (Proc.devRef .tc main_v9_7) = _ from W_arr m c 19, sat_array]
  obtain ⟨d, rfl⟩ : ∃ d : Fin 128, i = ix1 d := ⟨i 0, funext fun a => by match a with | ⟨0, _⟩ => rfl⟩
  exact unCol _ _ d
theorem host_flops (c : Dev nD) : StableHlo.after hostOps1 (W m c) (Proc.devRef .tc main_v12) = fun _ => (args m c).flops := by
  refine (host_v12 (W m c)).trans (funext fun i => ?_)
  rw [show W m c (Proc.devRef .tc main_v9_3) = _ from W_arr m c 15, flops_array]
  exact unOne _ _ i
theorem host_scales (c : Dev nD) : StableHlo.after hostOps1 (W m c) (Proc.devRef .tc main_v13) = fun i => scale ((args m c).tok (i 0) (i 1)) := by
  refine (host_v13 (W m c)).trans (funext fun i => ?_)
  rw [show W m c (Proc.devRef .tc main_v9_5) = _ from W_arr m c 17, scales_array]
  obtain ⟨d, s, rfl⟩ : ∃ (d : Fin 128) (s : Fin 256), i = ix2 d s := ⟨i 0, i 1, funext fun a => by match a with | ⟨0, _⟩ => rfl | ⟨1, _⟩ => rfl⟩
  exact unLast _ _ d s

/-- Every execution of the reference ends with the eight results as the arguments determine them, and with the arguments unchanged. -/
theorem values (ρ : Dev nD → PrngReg) : θ_run defs (onTc (τ := τ) (main (F := Ideal))) ⟨m, fun _ => 0, ρ⟩ (fun r => ∀ c : Dev nD,
      (r.2.mem ((c.tc : Thread nD τ).loc main_v9_0) = (fun i => (args m c).wt (i 0) (i 1))
      ∧ r.2.mem ((c.tc : Thread nD τ).loc main_v10) = (fun i => (args m c).l1 (i 0))
      ∧ r.2.mem ((c.tc : Thread nD τ).loc main_v11) = (fun i => (args m c).mean (i 0))
      ∧ r.2.mem ((c.tc : Thread nD τ).loc main_v12) = (fun _ => (args m c).flops)
      ∧ r.2.mem ((c.tc : Thread nD τ).loc main_v9_4) = (fun i => code ((args m c).tok (i 0) (i 1)) (i 2))
      ∧ r.2.mem ((c.tc : Thread nD τ).loc main_v13) = (fun i => scale ((args m c).tok (i 0) (i 1)))
      ∧ r.2.mem ((c.tc : Thread nD τ).loc main_v9_6) = (fun i => impact (args m c).imp ((args m c).wt (i 0) (i 1)))
      ∧ r.2.mem ((c.tc : Thread nD τ).loc main_v14) = (fun i => (args m c).sat (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨⟨((h.1 c).1 12).trans (rep_array m c),
      ((h.1 c).2 main_v10 (Pipeline.mem_restRefs_of main_v10 (by decide) (by decide))).trans ((tail_eq m c main_v10).trans (host_l1 m c)),
      ((h.1 c).2 main_v11 (Pipeline.mem_restRefs_of main_v11 (by decide) (by decide))).trans ((tail_eq m c main_v11).trans (host_mean m c)),
      ((h.1 c).2 main_v12 (Pipeline.mem_restRefs_of main_v12 (by decide) (by decide))).trans ((tail_eq m c main_v12).trans (host_flops m c)),
      ((h.1 c).1 16).trans (codes_array m c),
      ((h.1 c).2 main_v13 (Pipeline.mem_restRefs_of main_v13 (by decide) (by decide))).trans ((tail_eq m c main_v13).trans (host_scales m c)),
      ((h.1 c).1 18).trans (impacts_array m c),
      ((h.1 c).2 main_v14 (Pipeline.mem_restRefs_of main_v14 (by decide) (by decide))).trans ((tail_eq m c main_v14).trans (host_sat m c))⟩,
      h.2 c⟩) (θ_run_and (run_main m ρ) (unchanged m ρ))

end Cert.ReferenceIdeal.Pf

end
-- ==== Proof.lean ====
/- The claims, put together: the runs, that the arguments end unchanged and the semaphores at zero, and that the two programs agree. -/
module

public import proofs.«01_k».proof.Defs
public import proofs.«01_k».proof.Proof.Join
public import proofs.«01_k».proof.Proof.Kernel.Frame
public import proofs.«01_k».proof.Proof.KernelIdeal.Values
public import proofs.«01_k».proof.Proof.ReferenceIdeal.Results
public import Idealize.ShloMosaic.Adequacy
public import Idealize.ShloMosaic.Init

@[expose] public section

set_option maxRecDepth 16384

noncomputable section

namespace Cert.Proof

open Idealize.ShloMosaic Idealize.SL.Sem Cert.Spec

/-- The comparisons' shapes. -/
instance pre_facts : Cert.Pre_impact_nonneg.Facts := ⟨⟩
instance on_facts : Cert.On_sat_if_impact_nonneg.Facts := ⟨by decide, by decide, by decide, by decide, by decide⟩

/-- All eight results agree where the impact scale is not negative. -/
theorem algebraic_pre : algebraic_KernelIdeal_ReferenceIdeal_pre_impact_nonneg (hKernelIdeal := Cert.KernelIdeal.Gen.facts) (hReferenceIdeal := Cert.ReferenceIdeal.Gen.facts) (hPre_impact_nonneg := pre_facts) := by
  intro m g m' g' hp hm
  have hi : ∀ c, 0 ≤ (Cert.KernelIdeal.Pf.args m c).imp := fun c => Cert.Join.nonneg_of_word _ (fun a => a.elim0) (congrFun (hp c) _)
  have ha : ∀ c, Cert.ReferenceIdeal.Pf.args m' c = Cert.KernelIdeal.Pf.args m c := fun c => Cert.Join.args_eq m m' c (hm c)
  refine ⟨fun c i => (Cert.KernelIdeal.Pf.args m c).wt (i 0) (i 1), fun c i => (Cert.KernelIdeal.Pf.args m c).l1 (i 0),
    fun c i => (Cert.KernelIdeal.Pf.args m c).mean (i 0), fun c _ => (Cert.KernelIdeal.Pf.args m c).flops,
    fun c i => code ((Cert.KernelIdeal.Pf.args m c).tok (i 0) (i 1)) (i 2), fun c i => scale ((Cert.KernelIdeal.Pf.args m c).tok (i 0) (i 1)),
    fun c i => impact (Cert.KernelIdeal.Pf.args m c).imp ((Cert.KernelIdeal.Pf.args m c).wt (i 0) (i 1)), fun c i => (Cert.KernelIdeal.Pf.args m c).sat (i 0), ?_, ?_⟩
  · refine (θ_run Cert.KernelIdeal.defs _ _).mono (fun r h c => ?_) (Cert.KernelIdeal.Pf.values m g)
    obtain ⟨⟨h0, h1, h2, h3, h4, h5, h6, h7⟩, hk⟩ := h c
    exact ⟨h0, h1, h2, h3, h4, h5, h6, h7 (hi c), hk⟩
  · refine (θ_run Cert.ReferenceIdeal.defs _ _).mono (fun r h c => ?_) (Cert.ReferenceIdeal.Pf.values m' g')
    obtain ⟨⟨h0, h1, h2, h3, h4, h5, h6, h7⟩, hk⟩ := h c
    rw [ha c] at h0 h1 h2 h3 h4 h5 h6 h7
    exact ⟨h0, h1, h2, h3, h4, h5, h6, h7, hk⟩

/-- The first seven results agree everywhere, the eighth where the impact scale is not negative. -/
theorem algebraic_on : algebraic_KernelIdeal_ReferenceIdeal_on_sat_if_impact_nonneg (hKernelIdeal := Cert.KernelIdeal.Gen.facts) (hReferenceIdeal := Cert.ReferenceIdeal.Gen.facts) (hOn_sat_if_impact_nonneg := on_facts) := by
  intro m g m' g' _ hm
  have ha : ∀ c, Cert.ReferenceIdeal.Pf.args m' c = Cert.KernelIdeal.Pf.args m c := fun c => Cert.Join.args_eq m m' c (hm c)
  refine ⟨fun c i => (Cert.KernelIdeal.Pf.args m c).wt (i 0) (i 1), fun c i => (Cert.KernelIdeal.Pf.args m c).l1 (i 0),
    fun c i => (Cert.KernelIdeal.Pf.args m c).mean (i 0), fun c _ => (Cert.KernelIdeal.Pf.args m c).flops,
    fun c i => code ((Cert.KernelIdeal.Pf.args m c).tok (i 0) (i 1)) (i 2), fun c i => scale ((Cert.KernelIdeal.Pf.args m c).tok (i 0) (i 1)),
    fun c i => impact (Cert.KernelIdeal.Pf.args m c).imp ((Cert.KernelIdeal.Pf.args m c).wt (i 0) (i 1)), fun c i => (Cert.KernelIdeal.Pf.args m c).sat (i 0), ?_, ?_⟩
  · refine (θ_run Cert.KernelIdeal.defs _ _).mono (fun r h c => ?_) (Cert.KernelIdeal.Pf.values m g)
    obtain ⟨⟨h0, h1, h2, h3, h4, h5, h6, h7⟩, hk⟩ := h c
    exact ⟨fun i _ => congrFun h0 i, fun i _ => congrFun h1 i, fun i _ => congrFun h2 i, fun i _ => congrFun h3 i, fun i _ => congrFun h4 i,
      fun i _ => congrFun h5 i, fun i _ => congrFun h6 i, fun i hw => congrFun (h7 (Cert.Join.nonneg_of_word _ _ hw)) i, hk⟩
  · refine (θ_run Cert.ReferenceIdeal.defs _ _).mono (fun r h c => ?_) (Cert.ReferenceIdeal.Pf.values m' g')
    obtain ⟨⟨h0, h1, h2, h3, h4, h5, h6, h7⟩, hk⟩ := h c
    rw [ha c] at h0 h1 h2 h3 h4 h5 h6 h7
    exact ⟨fun i _ => congrFun h0 i, fun i _ => congrFun h1 i, fun i _ => congrFun h2 i, fun i _ => congrFun h3 i, fun i _ => congrFun h4 i,
      fun i _ => congrFun h5 i, fun i _ => congrFun h6 i, fun i _ => congrFun h7 i, hk⟩

theorem claim : Cert.Claim :=
  ⟨Cert.Kernel.Gen.facts, Cert.KernelIdeal.Gen.facts, Cert.ReferenceIdeal.Gen.facts, pre_facts, on_facts,
    fun m g _ => Cert.Kernel.Pf.frame m g, fun m g _ => Cert.KernelIdeal.Pf.frame m g fun c => Cert.KernelIdeal.Pf.tailFree (Cert.KernelIdeal.Pf.V3 m g) c, fun m g _ => Cert.KernelIdeal.Pf.frame m g fun c => Cert.KernelIdeal.Pf.tailFree (Cert.KernelIdeal.Pf.V3 m g) c,
    fun m g _ => Cert.ReferenceIdeal.Gen.frame m g, fun m g _ => Cert.ReferenceIdeal.Gen.frame m g, trivial, algebraic_pre, algebraic_on⟩

end Cert.Proof

end
